-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v47_2)) (v1 : (c : Dev Cert.Kernel2Ideal.nD) → Buf (Elt Ideal) ((c.tc : Thread Cert.Kernel2Ideal.nD Cert.Kernel2Ideal.τ).loc Cert.Kernel2Ideal.main_v47_3)) (v2 : (c : Dev Cert.Kernel2Ideal.nD) → Buf (Elt Ideal) ((c.tc : Thread Cert.Kernel2Ideal.nD Cert.Kernel2Ideal.τ).loc Cert.Kernel2Ideal.main_v47_4)) (v3 : (c : Dev Cert.Kernel2Ideal.nD) → Buf (Elt Ideal) ((c.tc : Thread Cert.Kernel2Ideal.nD Cert.Kernel2Ideal.τ).loc Cert.Kernel2Ideal.main_v47_7)) (v4 : (c : Dev Cert.Kernel2Ideal.nD) → Buf (Elt Ideal) ((c.tc : Thread Cert.Kernel2Ideal.nD Cert.Kernel2Ideal.τ).loc Cert.Kernel2Ideal.main_v47_8)) (v5 : (c : Dev Cert.Kernel2Ideal.nD) → Buf (Elt Ideal) ((c.tc : Thread Cert.Kernel2Ideal.nD Cert.Kernel2Ideal.τ).loc Cert.Kernel2Ideal.main_v47_9)) (v6 : (c : Dev Cert.Kernel2Ideal.nD) → Buf (Elt Ideal) ((c.tc : Thread Cert.Kernel2Ideal.nD Cert.Kernel2Ideal.τ).loc Cert.Kernel2Ideal.main_v47_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v47_2) = v0 c
          ∧ r.2.mem ((c.tc : Thread Cert.Kernel2Ideal.nD Cert.Kernel2Ideal.τ).loc Cert.Kernel2Ideal.main_v47_3) = v1 c
          ∧ r.2.mem ((c.tc : Thread Cert.Kernel2Ideal.nD Cert.Kernel2Ideal.τ).loc Cert.Kernel2Ideal.main_v47_4) = v2 c
          ∧ r.2.mem ((c.tc : Thread Cert.Kernel2Ideal.nD Cert.Kernel2Ideal.τ).loc Cert.Kernel2Ideal.main_v47_7) = v3 c
          ∧ r.2.mem ((c.tc : Thread Cert.Kernel2Ideal.nD Cert.Kernel2Ideal.τ).loc Cert.Kernel2Ideal.main_v47_8) = v4 c
          ∧ r.2.mem ((c.tc : Thread Cert.Kernel2Ideal.nD Cert.Kernel2Ideal.τ).loc Cert.Kernel2Ideal.main_v47_9) = v5 c
          ∧ r.2.mem ((c.tc : Thread Cert.Kernel2Ideal.nD Cert.Kernel2Ideal.τ).loc Cert.Kernel2Ideal.main_v47_10) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_v58) = v3 c
          ∧ r.2.mem ((c.tc : Thread Cert.Reference2Ideal.nD Cert.Reference2Ideal.τ).loc Cert.Reference2Ideal.main_v60) = v4 c
          ∧ r.2.mem ((c.tc : Thread Cert.Reference2Ideal.nD Cert.Reference2Ideal.τ).loc Cert.Reference2Ideal.main_v62) = v5 c
          ∧ r.2.mem ((c.tc : Thread Cert.Reference2Ideal.nD Cert.Reference2Ideal.τ).loc Cert.Reference2Ideal.main_v64) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
-- ==== Pre_finite_scores.lean ====
abbrev S32x2048x512 : Shape := ⟨3, ![32, 2048, 512]⟩
abbrev S16x512 : Shape := ⟨2, ![16, 512]⟩
abbrev S8x15x31 : Shape := ⟨3, ![8, 15, 31]⟩
abbrev S32x2048x1024 : Shape := ⟨3, ![32, 2048, 1024]⟩
abbrev S512 : Shape := ⟨1, ![512]⟩
abbrev S1024x1024 : Shape := ⟨2, ![1024, 1024]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S8x15x31 : S_.BroadcastsInDim S8x15x31 (![] : Fin 0 → Fin S8x15x31.rank)
  reducesTo_S8x15x31_S_d0_1_2 : S8x15x31.ReducesTo [0, 1, 2] S_

variable [Facts]

def fn_part1 {F : FTy → Type} [FloatOps F] (main_v13 : IVec S_ 1) (main_v16 : IVec S8x15x31 1) : IVec S_ 1 :=
  let main_c_5 : IVec S_ 1 := constantI S_ 1 1#1
  let main_v17 : IVec S_ 1 := (fun x v => Host.reduce IntOp.andi x v reducesTo_S8x15x31_S_d0_1_2 h_S_) main_v16 main_c_5
  let main_v18 : IVec S_ 1 := andi main_v13 main_v17
  main_v18

def fn {F : FTy → Type} [FloatOps F] (main_arg0 : FVec F S32x2048x512 .f32) (main_arg1 : FVec F S32x2048x512 .f32) (main_arg2 : FVec F S32x2048x512 .f32) (main_arg3 : FVec F S16x512 .f32) (main_arg4 : FVec F S16x512 .f32) (main_arg5 : FVec F S8x15x31 .f32) (main_arg6 : FVec F S32x2048x512 .f32) (main_arg7 : FVec F S32x2048x512 .f32) (main_arg8 : FVec F S32x2048x512 .f32) (main_arg9 : FVec F S32x2048x512 .f32) (main_arg10 : FVec F S32x2048x512 .f32) (main_arg11 : FVec F S32x2048x1024 .f32) (main_arg12 : FVec F S512 .f32) (main_arg13 : FVec F S1024x1024 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S32x2048x512 .f32 := Host.absf main_arg1
  let main_cst_0 : FVec F S_ .f32 := constant S_ .f32 0x7F800000#32
  let main_v5 : FVec F S32x2048x512 .f32 := broadcastInDim S32x2048x512 ![] bcast_S_S32x2048x512 main_cst_0
  let main_v6 : IVec S32x2048x512 1 := cmpf .olt main_v4 main_v5
  let main_c_1 : IVec S_ 1 := constantI S_ 1 1#1
  let main_v7 : IVec S_ 1 := (fun x v => Host.reduce IntOp.andi x v reducesTo_S32x2048x512_S_d0_1_2 h_S_) main_v6 main_c_1
  let main_v8 : IVec S_ 1 := andi main_v3 main_v7
  let main_v9 : FVec F S16x512 .f32 := Host.absf main_arg3
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  let main_v14 : FVec F S8x15x31 .f32 := Host.absf main_arg5
  let main_cst_4 : FVec F S_ .f32 := constant S_ .f32 0x7F800000#32
  let main_v15 : FVec F S8x15x31 .f32 := broadcastInDim S8x15x31 ![] bcast_S_S8x15x31 main_cst_4
  let main_v16 : IVec S8x15x31 1 := cmpf .olt main_v14 main_v15
  fn_part1 (F := F) main_v13 main_v16
-- ==== Kernel.lean ====
abbrev S32x2048x512 : Shape := ⟨3, ![32, 2048, 512]⟩
abbrev S16x512 : Shape := ⟨2, ![16, 512]⟩
abbrev S8x15x31 : Shape := ⟨3, ![8, 15, 31]⟩
abbrev S32x2048x1024 : Shape := ⟨3, ![32, 2048, 1024]⟩
abbrev S512 : Shape := ⟨1, ![512]⟩
abbrev S1024x1024 : Shape := ⟨2, ![1024, 1024]⟩
abbrev S1x512 : Shape := ⟨2, ![1, 512]⟩
abbrev S8x15x16 : Shape := ⟨3, ![8, 15, 16]⟩
abbrev S_ : Shape := ⟨0, ![]⟩
abbrev S8x15x98 : Shape := ⟨3, ![8, 15, 98]⟩
abbrev S8x15x15 : Shape := ⟨3, ![8, 15, 15]⟩
abbrev S8x15x129 : Shape := ⟨3, ![8, 15, 129]⟩
abbrev S1x8x1x15x1x129 : Shape := ⟨6, ![1, 8, 1, 15, 1, 129]⟩
abbrev S1x8x1x15x64x129 : Shape := ⟨6, ![1, 8, 1, 15, 64, 129]⟩
abbrev S8x15x8256 : Shape := ⟨3, ![8, 15, 8256]⟩
abbrev S8x15x8192 : Shape := ⟨3, ![8, 15, 8192]⟩
abbrev S8x15x64x128 : Shape := ⟨4, ![8, 15, 64, 128]⟩
abbrev S8x15x64x64 : Shape := ⟨4, ![8, 15, 64, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x1x64x64 : Shape := ⟨4, ![1, 1, 64, 64]⟩
abbrev S8x8x64x64 : Shape := ⟨4, ![8, 8, 64, 64]⟩
abbrev S8x1x8x64x64 : Shape := ⟨5, ![8, 1, 8, 64, 64]⟩
abbrev S8x8x8x64x64 : Shape := ⟨5, ![8, 8, 8, 64, 64]⟩
abbrev S8x8x64x8x64 : Shape := ⟨5, ![8, 8, 64, 8, 64]⟩
abbrev S4x2x8x64x512 : Shape := ⟨5, ![4, 2, 8, 64, 512]⟩
abbrev S4x8x2x64x512 : Shape := ⟨5, ![4, 8, 2, 64, 512]⟩
abbrev S4x8x128x512 : Shape := ⟨4, ![4, 8, 128, 512]⟩
abbrev S65536x512 : Shape := ⟨2, ![65536, 512]⟩
abbrev S65536x1024 : Shape := ⟨2, ![65536, 1024]⟩
abbrev S512x512 : Shape := ⟨2, ![512, 512]⟩
abbrev S2048x512 : Shape := ⟨2, ![2048, 512]⟩
abbrev S512x1024 : Shape := ⟨2, ![512, 1024]⟩
abbrev S64x128 : Shape := ⟨2, ![64, 128]⟩
abbrev S512x128 : Shape := ⟨2, ![512, 128]⟩
abbrev S16x128 : Shape := ⟨2, ![16, 128]⟩
abbrev S128x128 : Shape := ⟨2, ![128, 128]⟩
abbrev S128x512 : Shape := ⟨2, ![128, 512]⟩
abbrev S1x1x128x512 : Shape := ⟨4, ![1, 1, 128, 512]⟩
abbrev S128x16 : Shape := ⟨2, ![128, 16]⟩
abbrev S128 : Shape := ⟨1, ![128]⟩
abbrev S128x1 : Shape := ⟨2, ![128, 1]⟩
abbrev S512x256 : Shape := ⟨2, ![512, 256]⟩
abbrev S16x256 : Shape := ⟨2, ![16, 256]⟩
abbrev S128x256 : Shape := ⟨2, ![128, 256]⟩
abbrev S64x512 : Shape := ⟨2, ![64, 512]⟩
abbrev S1x128 : Shape := ⟨2, ![1, 128]⟩
abbrev S256x1024 : Shape := ⟨2, ![256, 1024]⟩

abbrev nBuf : Space → Nat
  | .hbm => 103
  | .vmem => 26
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x512, .f32⟩
  | .hbm, ⟨3, _⟩ => ⟨S16x512, .f32⟩
  | .hbm, ⟨4, _⟩ => ⟨S16x512, .f32⟩
  | .hbm, ⟨5, _⟩ => ⟨S8x15x31, .f32⟩
  | .hbm, ⟨6, _⟩ => ⟨S32x2048x512, .f32⟩
  | .hbm, ⟨7, _⟩ => ⟨S32x2048x512, .f32⟩
  | .hbm, ⟨8, _⟩ => ⟨S32x2048x512, .f32⟩
  | .hbm, ⟨9, _⟩ => ⟨S32x2048x512, .f32⟩
  | .hbm, ⟨10, _⟩ => ⟨S32x2048x512, .f32⟩
  | .hbm, ⟨11, _⟩ => ⟨S32x2048x1024, .f32⟩
  | .hbm, ⟨12, _⟩ => ⟨S512, .f32⟩
  | .hbm, ⟨13, _⟩ => ⟨S1024x1024, .f32⟩
  | .hbm, ⟨14, _⟩ => ⟨S1x512, .f32⟩
  | .hbm, ⟨15, _⟩ => ⟨S8x15x16, .f32⟩
  | .hbm, ⟨16, _⟩ => ⟨S_, .f32⟩
  | .hbm, ⟨17, _⟩ => ⟨S8x15x98, .f32⟩
  | .hbm, ⟨18, _⟩ => ⟨S8x15x15, .f32⟩
  | .hbm, ⟨19, _⟩ => ⟨S8x15x129, .f32⟩
  | .hbm, ⟨20, _⟩ => ⟨S1x8x1x15x1x129, .f32⟩
  | .hbm, ⟨21, _⟩ => ⟨S1x8x1x15x64x129, .f32⟩
  | .hbm, ⟨22, _⟩ => ⟨S8x15x8256, .f32⟩
  | .hbm, ⟨23, _⟩ => ⟨S8x15x8192, .f32⟩
  | .hbm, ⟨24, _⟩ => ⟨S8x15x64x128, .f32⟩
  | .hbm, ⟨25, _⟩ => ⟨S8x15x64x64, .f32⟩
  | .hbm, ⟨26, _⟩ => ⟨S64, .i32⟩
  | .hbm, ⟨27, _⟩ => ⟨S_, .i32⟩
  | .hbm, ⟨28, _⟩ => ⟨S64, .i32⟩
  | .hbm, ⟨29, _⟩ => ⟨S64, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S64, .i32⟩
  | .hbm, ⟨34, _⟩ => ⟨S64, .i32⟩
  | .hbm, ⟨35, _⟩ => ⟨S_, .i32⟩
  | .hbm, ⟨36, _⟩ => ⟨S64, .i32⟩
  | .hbm, ⟨37, _⟩ => ⟨S64, .i32⟩
  | .hbm, ⟨38, _⟩ => ⟨S1x64, .i32⟩
  | .hbm, ⟨39, _⟩ => ⟨S64x1, .i32⟩
  | .hbm, ⟨40, _⟩ => ⟨S64x64, .i32⟩
  | .hbm, ⟨41, _⟩ => ⟨S64x64, .i32⟩
  | .hbm, ⟨42, _⟩ => ⟨S64x64, .i1⟩
  | .hbm, ⟨43, _⟩ => ⟨S1x64, .i32⟩
  | .hbm, ⟨44, _⟩ => ⟨S64x1, .i32⟩
  | .hbm, ⟨45, _⟩ => ⟨S_, .i32⟩
  | .hbm, ⟨46, _⟩ => ⟨S64x1, .i32⟩
  | .hbm, ⟨47, _⟩ => ⟨S64x1, .i32⟩
  | .hbm, ⟨48, _⟩ => ⟨S64x64, .i32⟩
  | .hbm, ⟨49, _⟩ => ⟨S64x64, .i32⟩
  | .hbm, ⟨50, _⟩ => ⟨S64x64, .i1⟩
  | .hbm, ⟨51, _⟩ => ⟨S64x64, .i1⟩
  | .hbm, ⟨52, _⟩ => ⟨S1x1x64x64, .i1⟩
  | .hbm, ⟨53, _⟩ => ⟨S_, .f32⟩
  | .hbm, ⟨54, _⟩ => ⟨S_, .f32⟩
  | .hbm, ⟨55, _⟩ => ⟨S8x15x64x64, .i1⟩
  | .hbm, ⟨56, _⟩ => ⟨S8x15x64x64, .f32⟩
  | .hbm, ⟨57, _⟩ => ⟨S8x15x64x64, .f32⟩
  | .hbm, ⟨58, _⟩ => ⟨S8x8x64x64, .f32⟩
  | .hbm, ⟨59, _⟩ => ⟨S8x8x64x64, .f32⟩
  | .hbm, ⟨60, _⟩ => ⟨S8x8x64x64, .f32⟩
  | .hbm, ⟨61, _⟩ => ⟨S8x8x64x64, .f32⟩
  | .hbm, ⟨62, _⟩ => ⟨S8x8x64x64, .f32⟩
  | .hbm, ⟨63, _⟩ => ⟨S8x8x64x64, .f32⟩
  | .hbm, ⟨64, _⟩ => ⟨S8x8x64x64, .f32⟩
  | .hbm, ⟨65, _⟩ => ⟨S8x8x64x64, .f32⟩
  | .hbm, ⟨66, _⟩ => ⟨S8x1x8x64x64, .f32⟩
  | .hbm, ⟨67, _⟩ => ⟨S8x1x8x64x64, .f32⟩
  | .hbm, ⟨68, _⟩ => ⟨S8x1x8x64x64, .f32⟩
  | .hbm, ⟨69, _⟩ => ⟨S8x1x8x64x64, .f32⟩
  | .hbm, ⟨70, _⟩ => ⟨S8x1x8x64x64, .f32⟩
  | .hbm, ⟨71, _⟩ => ⟨S8x1x8x64x64, .f32⟩
  | .hbm, ⟨72, _⟩ => ⟨S8x1x8x64x64, .f32⟩
  | .hbm, ⟨73, _⟩ => ⟨S8x1x8x64x64, .f32⟩
  | .hbm, ⟨74, _⟩ => ⟨S8x8x8x64x64, .f32⟩
  | .hbm, ⟨75, _⟩ => ⟨S8x8x64x8x64, .f32⟩
  | .hbm, ⟨76, _⟩ => ⟨S4x2x8x64x512, .f32⟩
  | .hbm, ⟨77, _⟩ => ⟨S4x8x2x64x512, .f32⟩
  | .hbm, ⟨78, _⟩ => ⟨S4x8x128x512, .f32⟩
  | .hbm, ⟨79, _⟩ => ⟨S1024x1024, .bf16⟩
  | .hbm, ⟨80, _⟩ => ⟨S_, .f32⟩
  | .hbm, ⟨81, _⟩ => ⟨S32x2048x512, .f32⟩
  | .hbm, ⟨82, _⟩ => ⟨S32x2048x512, .f32⟩
  | .hbm, ⟨83, _⟩ => ⟨S65536x512, .f32⟩
  | .hbm, ⟨84, _⟩ => ⟨S65536x512, .bf16⟩
  | .hbm, ⟨85, _⟩ => ⟨S65536x512, .f32⟩
  | .hbm, ⟨86, _⟩ => ⟨S65536x512, .bf16⟩
  | .hbm, ⟨87, _⟩ => ⟨S65536x512, .f32⟩
  | .hbm, ⟨88, _⟩ => ⟨S65536x512, .bf16⟩
  | .hbm, ⟨89, _⟩ => ⟨S65536x512, .f32⟩
  | .hbm, ⟨90, _⟩ => ⟨S65536x512, .bf16⟩
  | .hbm, ⟨91, _⟩ => ⟨S16x512, .bf16⟩
  | .hbm, ⟨92, _⟩ => ⟨S16x512, .bf16⟩
  | .hbm, ⟨93, _⟩ => ⟨S65536x512, .f32⟩
  | .hbm, ⟨94, _⟩ => ⟨S65536x512, .bf16⟩
  | .hbm, ⟨95, _⟩ => ⟨S65536x512, .f32⟩
  | .hbm, ⟨96, _⟩ => ⟨S65536x512, .bf16⟩
  | .hbm, ⟨97, _⟩ => ⟨S65536x512, .f32⟩
  | .hbm, ⟨98, _⟩ => ⟨S65536x512, .bf16⟩
  | .hbm, ⟨99, _⟩ => ⟨S65536x512, .f32⟩
  | .hbm, ⟨100, _⟩ => ⟨S65536x512, .bf16⟩
  | .hbm, ⟨101, _⟩ => ⟨S65536x1024, .f32⟩
  | .hbm, ⟨102, _⟩ => ⟨S65536x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S16x512, .bf16⟩
  | .local _ .vmem, ⟨9, _⟩ => ⟨S16x512, .bf16⟩
  | .local _ .vmem, ⟨10, _⟩ => ⟨S4x8x128x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x1024, .f32⟩
  | .local _ .vmem, ⟨20, _⟩ => ⟨S512x1024, .f32⟩
  | .local _ .vmem, ⟨21, _⟩ => ⟨S1x512, .f32⟩
  | .local _ .vmem, ⟨22, _⟩ => ⟨S1024x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_c_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_4 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let c24_i32 : BitVec 32 := 24#32
  let c0_i32_2 : BitVec 32 := 0#32
  let arg1 : BitVec 32 := BitVec.ofNat 32 (i 1).val
  let c8_i32 : BitVec 32 := 8#32
  let v7 : BitVec 32 := Scalar.muli arg1 c8_i32
  let c0_i32 : BitVec 32 := 0#32
  let v8 : BitVec 32 := Scalar.addi v7 c0_i32
  let c4_i32 : BitVec 32 := 4#32
  let v9 : BitVec 32 := Scalar.subi v8 c4_i32
  let v10 : BitVec 32 := Scalar.maxsi c0_i32_2 v9
  let v11 : BitVec 32 := Scalar.minsi c24_i32 v10
  let c64_i32_3 : BitVec 32 := 64#32
  let v14 : BitVec 32 := Scalar.muli v11 c64_i32_3
  v14
def k0_off1 (i : grid0.Coords) (c0_i32 : BitVec 32) : Fin 2 → Nat :=
  let c24_i32 : BitVec 32 := 24#32
  let c0_i32_2 : BitVec 32 := 0#32
  let arg1 : BitVec 32 := BitVec.ofNat 32 (i 1).val
  let c8_i32 : BitVec 32 := 8#32
  let v7 : BitVec 32 := Scalar.muli arg1 c8_i32
  let v8 : BitVec 32 := Scalar.addi v7 c0_i32
  let c4_i32 : BitVec 32 := 4#32
  let v9 : BitVec 32 := Scalar.subi v8 c4_i32
  let v10 : BitVec 32 := Scalar.maxsi c0_i32_2 v9
  let v11 : BitVec 32 := Scalar.minsi c24_i32 v10
  let c64_i32_3 : BitVec 32 := 64#32
  let v14 : BitVec 32 := Scalar.muli v11 c64_i32_3
  let v15 : BitVec 32 := v14
  let v22 : Index := Scalar.indexCast v15
  let c0_7 : Index := 0#32
  ![v22.toNat, 0]
def k0_off2 (i : grid0.Coords) (c0_i32 : BitVec 32) : Fin 4 → Nat :=
  let c0_9 : Index := 0#32
  let c24_i32 : BitVec 32 := 24#32
  let c0_i32_2 : BitVec 32 := 0#32
  let arg1 : BitVec 32 := BitVec.ofNat 32 (i 1).val
  let c8_i32 : BitVec 32 := 8#32
  let v7 : BitVec 32 := Scalar.muli arg1 c8_i32
  let v8 : BitVec 32 := Scalar.addi v7 c0_i32
  let c4_i32 : BitVec 32 := 4#32
  let v9 : BitVec 32 := Scalar.subi v8 c4_i32
  let v10 : BitVec 32 := Scalar.maxsi c0_i32_2 v9
  let v11 : BitVec 32 := Scalar.minsi c24_i32 v10
  let v12 : BitVec 32 := Scalar.subi v11 v8
  let c7_i32 : BitVec 32 := 7#32
  let v13 : BitVec 32 := Scalar.addi v12 c7_i32
  let v26 : Index := Scalar.indexCast v13
  let c0_10 : Index := 0#32
  let c0_11 : Index := 0#32
  ![0, v26.toNat, 0, 0]
def k0_off3 (i : grid0.Coords) (c0_i32 : BitVec 32) : Fin 2 → Nat :=
  let c24_i32 : BitVec 32 := 24#32
  let c0_i32_2 : BitVec 32 := 0#32
  let arg1 : BitVec 32 := BitVec.ofNat 32 (i 1).val
  let c8_i32 : BitVec 32 := 8#32
  let v7 : BitVec 32 := Scalar.muli arg1 c8_i32
  let v8 : BitVec 32 := Scalar.addi v7 c0_i32
  let c4_i32 : BitVec 32 := 4#32
  let v9 : BitVec 32 := Scalar.subi v8 c4_i32
  let v10 : BitVec 32 := Scalar.maxsi c0_i32_2 v9
  let v11 : BitVec 32 := Scalar.minsi c24_i32 v10
  let c64_i32_3 : BitVec 32 := 64#32
  let v14 : BitVec 32 := Scalar.muli v11 c64_i32_3
  let v15 : BitVec 32 := v14
  let v84 : Index := Scalar.indexCast v15
  let c128_30 : Index := 128#32
  ![v84.toNat, 128]
def k0_off4 (i : grid0.Coords) (c0_i32 : BitVec 32) : Fin 4 → Nat :=
  let c1 : Index := 1#32
  let c24_i32 : BitVec 32 := 24#32
  let c0_i32_2 : BitVec 32 := 0#32
  let arg1 : BitVec 32 := BitVec.ofNat 32 (i 1).val
  let c8_i32 : BitVec 32 := 8#32
  let v7 : BitVec 32 := Scalar.muli arg1 c8_i32
  let v8 : BitVec 32 := Scalar.addi v7 c0_i32
  let c4_i32 : BitVec 32 := 4#32
  let v9 : BitVec 32 := Scalar.subi v8 c4_i32
  let v10 : BitVec 32 := Scalar.maxsi c0_i32_2 v9
  let v11 : BitVec 32 := Scalar.minsi c24_i32 v10
  let v12 : BitVec 32 := Scalar.subi v11 v8
  let c7_i32 : BitVec 32 := 7#32
  let v13 : BitVec 32 := Scalar.addi v12 c7_i32
  let v88 : Index := Scalar.indexCast v13
  let c0_32 : Index := 0#32
  let c0_33 : Index := 0#32
  ![1, v88.toNat, 0, 0]
def k0_off5 (i : grid0.Coords) (c0_i32 : BitVec 32) : Fin 2 → Nat :=
  let c24_i32 : BitVec 32 := 24#32
  let c0_i32_2 : BitVec 32 := 0#32
  let arg1 : BitVec 32 := BitVec.ofNat 32 (i 1).val
  let c8_i32 : BitVec 32 := 8#32
  let v7 : BitVec 32 := Scalar.muli arg1 c8_i32
  let v8 : BitVec 32 := Scalar.addi v7 c0_i32
  let c4_i32 : BitVec 32 := 4#32
  let v9 : BitVec 32 := Scalar.subi v8 c4_i32
  let v10 : BitVec 32 := Scalar.maxsi c0_i32_2 v9
  let v11 : BitVec 32 := Scalar.minsi c24_i32 v10
  let c64_i32_3 : BitVec 32 := 64#32
  let v14 : BitVec 32 := Scalar.muli v11 c64_i32_3
  let v15 : BitVec 32 := v14
  let v146 : Index := Scalar.indexCast v15
  let c256_52 : Index := 256#32
  ![v146.toNat, 256]
def k0_off6 (i : grid0.Coords) (c0_i32 : BitVec 32) : Fin 4 → Nat :=
  let c2 : Index := 2#32
  let c24_i32 : BitVec 32 := 24#32
  let c0_i32_2 : BitVec 32 := 0#32
  let arg1 : BitVec 32 := BitVec.ofNat 32 (i 1).val
  let c8_i32 : BitVec 32 := 8#32
  let v7 : BitVec 32 := Scalar.muli arg1 c8_i32
  let v8 : BitVec 32 := Scalar.addi v7 c0_i32
  let c4_i32 : BitVec 32 := 4#32
  let v9 : BitVec 32 := Scalar.subi v8 c4_i32
  let v10 : BitVec 32 := Scalar.maxsi c0_i32_2 v9
  let v11 : BitVec 32 := Scalar.minsi c24_i32 v10
  let v12 : BitVec 32 := Scalar.subi v11 v8
  let c7_i32 : BitVec 32 := 7#32
  let v13 : BitVec 32 := Scalar.addi v12 c7_i32
  let v150 : Index := Scalar.indexCast v13
  let c0_54 : Index := 0#32
  let c0_55 : Index := 0#32
  ![2, v150.toNat, 0, 0]
def k0_off7 (i : grid0.Coords) (c0_i32 : BitVec 32) : Fin 2 → Nat :=
  let c24_i32 : BitVec 32 := 24#32
  let c0_i32_2 : BitVec 32 := 0#32
  let arg1 : BitVec 32 := BitVec.ofNat 32 (i 1).val
  let c8_i32 : BitVec 32 := 8#32
  let v7 : BitVec 32 := Scalar.muli arg1 c8_i32
  let v8 : BitVec 32 := Scalar.addi v7 c0_i32
  let c4_i32 : BitVec 32 := 4#32
  let v9 : BitVec 32 := Scalar.subi v8 c4_i32
  let v10 : BitVec 32 := Scalar.maxsi c0_i32_2 v9
  let v11 : BitVec 32 := Scalar.minsi c24_i32 v10
  let c64_i32_3 : BitVec 32 := 64#32
  let v14 : BitVec 32 := Scalar.muli v11 c64_i32_3
  let v15 : BitVec 32 := v14
  let v208 : Index := Scalar.indexCast v15
  let c384_74 : Index := 384#32
  ![v208.toNat, 384]
def k0_off8 (i : grid0.Coords) (c0_i32 : BitVec 32) : Fin 4 → Nat :=
  let c3 : Index := 3#32
  let c24_i32 : BitVec 32 := 24#32
  let c0_i32_2 : BitVec 32 := 0#32
  let arg1 : BitVec 32 := BitVec.ofNat 32 (i 1).val
  let c8_i32 : BitVec 32 := 8#32
  let v7 : BitVec 32 := Scalar.muli arg1 c8_i32
  let v8 : BitVec 32 := Scalar.addi v7 c0_i32
  let c4_i32 : BitVec 32 := 4#32
  let v9 : BitVec 32 := Scalar.subi v8 c4_i32
  let v10 : BitVec 32 := Scalar.maxsi c0_i32_2 v9
  let v11 : BitVec 32 := Scalar.minsi c24_i32 v10
  let v12 : BitVec 32 := Scalar.subi v11 v8
  let c7_i32 : BitVec 32 := 7#32
  let v13 : BitVec 32 := Scalar.addi v12 c7_i32
  let v212 : Index := Scalar.indexCast v13
  let c0_76 : Index := 0#32
  let c0_77 : Index := 0#32
  ![3, v212.toNat, 0, 0]
def k0_mult2 (i : grid0.Coords) : BitVec 32 :=
  let c24_i32_125 : BitVec 32 := 24#32
  let c0_i32_124 : BitVec 32 := 0#32
  let arg1 : BitVec 32 := BitVec.ofNat 32 (i 1).val
  let c8_i32_122 : BitVec 32 := 8#32
  let v355 : BitVec 32 := Scalar.muli arg1 c8_i32_122
  let c1_i32 : BitVec 32 := 1#32
  let v356 : BitVec 32 := Scalar.addi v355 c1_i32
  let c4_i32_123 : BitVec 32 := 4#32
  let v357 : BitVec 32 := Scalar.subi v356 c4_i32_123
  let v358 : BitVec 32 := Scalar.maxsi c0_i32_124 v357
  let v359 : BitVec 32 := Scalar.minsi c24_i32_125 v358
  let c64_i32_127 : BitVec 32 := 64#32
  let v362 : BitVec 32 := Scalar.muli v359 c64_i32_127
  v362
def k0_mult3 (i : grid0.Coords) : BitVec 32 :=
  let c24_i32_258 : BitVec 32 := 24#32
  let c0_i32_257 : BitVec 32 := 0#32
  let arg1 : BitVec 32 := BitVec.ofNat 32 (i 1).val
  let c8_i32_255 : BitVec 32 := 8#32
  let v703 : BitVec 32 := Scalar.muli arg1 c8_i32_255
  let c2_i32 : BitVec 32 := 2#32
  let v704 : BitVec 32 := Scalar.addi v703 c2_i32
  let c4_i32_256 : BitVec 32 := 4#32
  let v705 : BitVec 32 := Scalar.subi v704 c4_i32_256
  let v706 : BitVec 32 := Scalar.maxsi c0_i32_257 v705
  let v707 : BitVec 32 := Scalar.minsi c24_i32_258 v706
  let c64_i32_260 : BitVec 32 := 64#32
  let v710 : BitVec 32 := Scalar.muli v707 c64_i32_260
  v710
def k0_mult4 (i : grid0.Coords) : BitVec 32 :=
  let c24_i32_392 : BitVec 32 := 24#32
  let c0_i32_391 : BitVec 32 := 0#32
  let arg1 : BitVec 32 := BitVec.ofNat 32 (i 1).val
  let c8_i32_389 : BitVec 32 := 8#32
  let v1051 : BitVec 32 := Scalar.muli arg1 c8_i32_389
  let c3_i32 : BitVec 32 := 3#32
  let v1052 : BitVec 32 := Scalar.addi v1051 c3_i32
  let c4_i32_390 : BitVec 32 := 4#32
  let v1053 : BitVec 32 := Scalar.subi v1052 c4_i32_390
  let v1054 : BitVec 32 := Scalar.maxsi c0_i32_391 v1053
  let v1055 : BitVec 32 := Scalar.minsi c24_i32_392 v1054
  let c64_i32_394 : BitVec 32 := 64#32
  let v1058 : BitVec 32 := Scalar.muli v1055 c64_i32_394
  v1058
def k0_mult5 (i : grid0.Coords) : BitVec 32 :=
  let c24_i32_535 : BitVec 32 := 24#32
  let c0_i32_534 : BitVec 32 := 0#32
  let arg1 : BitVec 32 := BitVec.ofNat 32 (i 1).val
  let c8_i32_531 : BitVec 32 := 8#32
  let v1407 : BitVec 32 := Scalar.muli arg1 c8_i32_531
  let c4_i32_532 : BitVec 32 := 4#32
  let v1408 : BitVec 32 := Scalar.addi v1407 c4_i32_532
  let c4_i32_533 : BitVec 32 := 4#32
  let v1409 : BitVec 32 := Scalar.subi v1408 c4_i32_533
  let v1410 : BitVec 32 := Scalar.maxsi c0_i32_534 v1409
  let v1411 : BitVec 32 := Scalar.minsi c24_i32_535 v1410
  let c64_i32_537 : BitVec 32 := 64#32
  let v1414 : BitVec 32 := Scalar.muli v1411 c64_i32_537
  v1414
def k0_mult6 (i : grid0.Coords) : BitVec 32 :=
  let c24_i32_669 : BitVec 32 := 24#32
  let c0_i32_668 : BitVec 32 := 0#32
  let arg1 : BitVec 32 := BitVec.ofNat 32 (i 1).val
  let c8_i32_666 : BitVec 32 := 8#32
  let v1755 : BitVec 32 := Scalar.muli arg1 c8_i32_666
  let c5_i32 : BitVec 32 := 5#32
  let v1756 : BitVec 32 := Scalar.addi v1755 c5_i32
  let c4_i32_667 : BitVec 32 := 4#32
  let v1757 : BitVec 32 := Scalar.subi v1756 c4_i32_667
  let v1758 : BitVec 32 := Scalar.maxsi c0_i32_668 v1757
  let v1759 : BitVec 32 := Scalar.minsi c24_i32_669 v1758
  let c64_i32_671 : BitVec 32 := 64#32
  let v1762 : BitVec 32 := Scalar.muli v1759 c64_i32_671
  v1762
def k0_mult7 (i : grid0.Coords) : BitVec 32 :=
  let c24_i32_802 : BitVec 32 := 24#32
  let c0_i32_801 : BitVec 32 := 0#32
  let arg1 : BitVec 32 := BitVec.ofNat 32 (i 1).val
  let c8_i32_799 : BitVec 32 := 8#32
  let v2103 : BitVec 32 := Scalar.muli arg1 c8_i32_799
  let c6_i32 : BitVec 32 := 6#32
  let v2104 : BitVec 32 := Scalar.addi v2103 c6_i32
  let c4_i32_800 : BitVec 32 := 4#32
  let v2105 : BitVec 32 := Scalar.subi v2104 c4_i32_800
  let v2106 : BitVec 32 := Scalar.maxsi c0_i32_801 v2105
  let v2107 : BitVec 32 := Scalar.minsi c24_i32_802 v2106
  let c64_i32_804 : BitVec 32 := 64#32
  let v2110 : BitVec 32 := Scalar.muli v2107 c64_i32_804
  v2110
def k0_mult8 (i : grid0.Coords) : BitVec 32 :=
  let c24_i32_937 : BitVec 32 := 24#32
  let c0_i32_936 : BitVec 32 := 0#32
  let arg1 : BitVec 32 := BitVec.ofNat 32 (i 1).val
  let c8_i32_933 : BitVec 32 := 8#32
  let v2451 : BitVec 32 := Scalar.muli arg1 c8_i32_933
  let c7_i32_934 : BitVec 32 := 7#32
  let v2452 : BitVec 32 := Scalar.addi v2451 c7_i32_934
  let c4_i32_935 : BitVec 32 := 4#32
  let v2453 : BitVec 32 := Scalar.subi v2452 c4_i32_935
  let v2454 : BitVec 32 := Scalar.maxsi c0_i32_936 v2453
  let v2455 : BitVec 32 := Scalar.minsi c24_i32_937 v2454
  let c64_i32_939 : BitVec 32 := 64#32
  let v2458 : BitVec 32 := Scalar.muli v2455 c64_i32_939
  v2458
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S16x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x8x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S32x2048x512 : Shape := ⟨3, ![32, 2048, 512]⟩
abbrev S16x512 : Shape := ⟨2, ![16, 512]⟩
abbrev S8x15x31 : Shape := ⟨3, ![8, 15, 31]⟩
abbrev S32x2048x1024 : Shape := ⟨3, ![32, 2048, 1024]⟩
abbrev S512 : Shape := ⟨1, ![512]⟩
abbrev S1024x1024 : Shape := ⟨2, ![1024, 1024]⟩
abbrev S32x2048x4x128 : Shape := ⟨4, ![32, 2048, 4, 128]⟩
abbrev S_ : Shape := ⟨0, ![]⟩
abbrev S4x128 : Shape := ⟨2, ![4, 128]⟩
abbrev S32x2048x4 : Shape := ⟨3, ![32, 2048, 4]⟩
abbrev S32x2048x4x1 : Shape := ⟨4, ![32, 2048, 4, 1]⟩
abbrev S1x1x4x128 : Shape := ⟨4, ![1, 1, 4, 128]⟩
abbrev S32x2048x8x64 : Shape := ⟨4, ![32, 2048, 8, 64]⟩
abbrev S16x8x64 : Shape := ⟨3, ![16, 8, 64]⟩
abbrev S32x32x64x8x64 : Shape := ⟨5, ![32, 32, 64, 8, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S32x32x8x64x8x64 : Shape := ⟨6, ![32, 32, 8, 64, 8, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S8x32x64x8x64 : Shape := ⟨5, ![8, 32, 64, 8, 64]⟩
abbrev S32x8x32x64x8x64 : Shape := ⟨6, ![32, 8, 32, 64, 8, 64]⟩
abbrev S1x8x32x64x8x64 : Shape := ⟨6, ![1, 8, 32, 64, 8, 64]⟩
abbrev S1x1x1x64x1x64 : Shape := ⟨6, ![1, 1, 1, 64, 1, 64]⟩
abbrev S8x16x32x32x64 : Shape := ⟨5, ![8, 16, 32, 32, 64]⟩
abbrev S32x8x32x64x16 : Shape := ⟨5, ![32, 8, 32, 64, 16]⟩
abbrev S32x8x32x64x512 : Shape := ⟨5, ![32, 8, 32, 64, 512]⟩
abbrev S32x8x32x64x528 : Shape := ⟨5, ![32, 8, 32, 64, 528]⟩
abbrev S32x8x32x64 : Shape := ⟨4, ![32, 8, 32, 64]⟩
abbrev S32x8x32x64x1 : Shape := ⟨5, ![32, 8, 32, 64, 1]⟩
abbrev S32x32x8x64x64 : Shape := ⟨5, ![32, 32, 8, 64, 64]⟩
abbrev S8x64x32x32x64 : Shape := ⟨5, ![8, 64, 32, 32, 64]⟩
abbrev S65536x1024 : Shape := ⟨2, ![65536, 1024]⟩

abbrev nBuf : Space → Nat
  | .hbm => 226
  | .vmem => 0
  | .smem => 0
  | _ => 0

abbrev hbmTy0_0 (i : Nat) : BufTy := match i % 128 with
  | 0 => ⟨S32x2048x512, .f32⟩
  | 1 => ⟨S32x2048x512, .f32⟩
  | 2 => ⟨S32x2048x512, .f32⟩
  | 3 => ⟨S16x512, .f32⟩
  | 4 => ⟨S16x512, .f32⟩
  | 5 => ⟨S8x15x31, .f32⟩
  | 6 => ⟨S32x2048x512, .f32⟩
  | 7 => ⟨S32x2048x512, .f32⟩
  | 8 => ⟨S32x2048x512, .f32⟩
  | 9 => ⟨S32x2048x512, .f32⟩
  | 10 => ⟨S32x2048x512, .f32⟩
  | 11 => ⟨S32x2048x1024, .f32⟩
  | 12 => ⟨S512, .f32⟩
  | 13 => ⟨S1024x1024, .f32⟩
  | 14 => ⟨S32x2048x4x128, .f32⟩
  | 15 => ⟨S32x2048x4x128, .f32⟩
  | 16 => ⟨S32x2048x4x128, .f32⟩
  | 17 => ⟨S_, .f32⟩
  | 18 => ⟨S32x2048x4x128, .f32⟩
  | 19 => ⟨S32x2048x4x128, .f32⟩
  | 20 => ⟨S_, .f32⟩
  | 21 => ⟨S32x2048x4x128, .f32⟩
  | 22 => ⟨S32x2048x4x128, .f32⟩
  | 23 => ⟨S32x2048x4x128, .f32⟩
  | 24 => ⟨S32x2048x4x128, .f32⟩
  | 25 => ⟨S32x2048x4x128, .f32⟩
  | 26 => ⟨S32x2048x4x128, .f32⟩
  | 27 => ⟨S4x128, .f32⟩
  | 28 => ⟨S32x2048x4x128, .f32⟩
  | 29 => ⟨S_, .f32⟩
  | 30 => ⟨S32x2048x4, .f32⟩
  | 31 => ⟨S32x2048x4x1, .f32⟩
  | 32 => ⟨S_, .f32⟩
  | 33 => ⟨S32x2048x4x1, .f32⟩
  | 34 => ⟨S32x2048x4x1, .f32⟩
  | 35 => ⟨S_, .f32⟩
  | 36 => ⟨S32x2048x4x1, .f32⟩
  | 37 => ⟨S32x2048x4x1, .f32⟩
  | 38 => ⟨S32x2048x4x1, .f32⟩
  | 39 => ⟨S32x2048x4x128, .f32⟩
  | 40 => ⟨S32x2048x4x128, .f32⟩
  | 41 => ⟨S1x1x4x128, .f32⟩
  | 42 => ⟨S32x2048x4x128, .f32⟩
  | 43 => ⟨S32x2048x4x128, .f32⟩
  | 44 => ⟨S32x2048x512, .f32⟩
  | 45 => ⟨S32x2048x512, .f32⟩
  | 46 => ⟨S32x2048x512, .f32⟩
  | 47 => ⟨S_, .f32⟩
  | 48 => ⟨S32x2048x512, .f32⟩
  | 49 => ⟨S32x2048x512, .f32⟩
  | 50 => ⟨S_, .f32⟩
  | 51 => ⟨S32x2048x512, .f32⟩
  | 52 => ⟨S32x2048x512, .f32⟩
  | 53 => ⟨S32x2048x512, .f32⟩
  | 54 => ⟨S32x2048x512, .f32⟩
  | 55 => ⟨S32x2048x8x64, .f32⟩
  | 56 => ⟨S32x2048x8x64, .f32⟩
  | 57 => ⟨S32x2048x8x64, .f32⟩
  | 58 => ⟨S16x8x64, .f32⟩
  | 59 => ⟨S16x8x64, .f32⟩
  | 60 => ⟨S32x32x64x8x64, .f32⟩
  | 61 => ⟨S32x32x64x8x64, .f32⟩
  | 62 => ⟨S32x32x64x8x64, .f32⟩
  | 63 => ⟨S32, .i32⟩
  | 64 => ⟨S_, .i32⟩
  | 65 => ⟨S32, .i32⟩
  | 66 => ⟨S32, .i32⟩
  | 67 => ⟨S_, .i32⟩
  | 68 => ⟨S_, .i32⟩
  | 69 => ⟨S_, .i32⟩
  | 70 => ⟨S32, .i32⟩
  | 71 => ⟨S32, .i32⟩
  | 72 => ⟨S_, .i32⟩
  | 73 => ⟨S32, .i32⟩
  | 74 => ⟨S32, .i32⟩
  | 75 => ⟨S32x1, .i32⟩
  | 76 => ⟨S8, .i32⟩
  | 77 => ⟨S1x8, .i32⟩
  | 78 => ⟨S32x8, .i32⟩
  | 79 => ⟨S32x8, .i32⟩
  | 80 => ⟨S32x8, .i32⟩
  | 81 => ⟨S_, .i32⟩
  | 82 => ⟨S32x8, .i32⟩
  | 83 => ⟨S32x8, .i1⟩
  | 84 => ⟨S_, .i32⟩
  | 85 => ⟨S32x8, .i32⟩
  | 86 => ⟨S32x8, .i32⟩
  | 87 => ⟨S32x8, .i32⟩
  | 88 => ⟨S32x8x1, .i32⟩
  | 89 => ⟨S32x32x8x64x8x64, .f32⟩
  | 90 => ⟨S_, .i32⟩
  | 91 => ⟨S32x8, .i32⟩
  | 92 => ⟨S32x8, .i1⟩
  | 93 => ⟨S_, .i32⟩
  | 94 => ⟨S32x8, .i32⟩
  | 95 => ⟨S32x8, .i32⟩
  | 96 => ⟨S32x8, .i32⟩
  | 97 => ⟨S32x8x1, .i32⟩
  | 98 => ⟨S32x32x8x64x8x64, .f32⟩
  | 99 => ⟨S64, .i32⟩
  | 100 => ⟨S_, .i32⟩
  | 101 => ⟨S64, .i32⟩
  | 102 => ⟨S64, .i32⟩
  | 103 => ⟨S_, .i32⟩
  | 104 => ⟨S_, .i32⟩
  | 105 => ⟨S_, .i32⟩
  | 106 => ⟨S64, .i32⟩
  | 107 => ⟨S64, .i32⟩
  | 108 => ⟨S_, .i32⟩
  | 109 => ⟨S64, .i32⟩
  | 110 => ⟨S64, .i32⟩
  | 111 => ⟨S1x64, .i32⟩
  | 112 => ⟨S64x1, .i32⟩
  | 113 => ⟨S64x64, .i32⟩
  | 114 => ⟨S64x64, .i32⟩
  | 115 => ⟨S64x64, .i1⟩
  | 116 => ⟨S1x64, .i32⟩
  | 117 => ⟨S64x1, .i32⟩
  | 118 => ⟨S_, .i32⟩
  | 119 => ⟨S64x1, .i32⟩
  | 120 => ⟨S64x1, .i32⟩
  | 121 => ⟨S64x64, .i32⟩
  | 122 => ⟨S64x64, .i32⟩
  | 123 => ⟨S64x64, .i1⟩
  | 124 => ⟨S64x64, .i1⟩
  | 125 => ⟨S32x1, .i32⟩
  | 126 => ⟨S32x8, .i32⟩
  | 127 => ⟨S32x8, .i32⟩
  | _ => ⟨S32x2048x512, .f32⟩

abbrev hbmTy0_1 (i : Nat) : BufTy := match i % 128 with
  | 0 => ⟨S_, .i32⟩
  | 1 => ⟨S32x8, .i32⟩
  | 2 => ⟨S32x8, .i32⟩
  | 3 => ⟨S1x64, .i32⟩
  | 4 => ⟨S64x1, .i32⟩
  | 5 => ⟨S64x64, .i32⟩
  | 6 => ⟨S64x64, .i32⟩
  | 7 => ⟨S64x64, .i32⟩
  | 8 => ⟨S_, .i32⟩
  | 9 => ⟨S64x64, .i32⟩
  | 10 => ⟨S64x64, .i32⟩
  | 11 => ⟨S_, .i32⟩
  | 12 => ⟨S_, .i32⟩
  | 13 => ⟨S_, .i32⟩
  | 14 => ⟨S64x64, .i32⟩
  | 15 => ⟨S64x64, .i32⟩
  | 16 => ⟨S_, .i32⟩
  | 17 => ⟨S64x64, .i32⟩
  | 18 => ⟨S64x64, .i32⟩
  | 19 => ⟨S32x1x8x1, .i32⟩
  | 20 => ⟨S1x64x1x64, .i32⟩
  | 21 => ⟨S_, .i32⟩
  | 22 => ⟨S32x1x8x1, .i32⟩
  | 23 => ⟨S32x1x8x1, .i1⟩
  | 24 => ⟨S_, .i32⟩
  | 25 => ⟨S32x1x8x1, .i32⟩
  | 26 => ⟨S32x1x8x1, .i32⟩
  | 27 => ⟨S32x1x8x1, .i32⟩
  | 28 => ⟨S_, .i32⟩
  | 29 => ⟨S1x64x1x64, .i32⟩
  | 30 => ⟨S1x64x1x64, .i1⟩
  | 31 => ⟨S_, .i32⟩
  | 32 => ⟨S1x64x1x64, .i32⟩
  | 33 => ⟨S1x64x1x64, .i32⟩
  | 34 => ⟨S1x64x1x64, .i32⟩
  | 35 => ⟨S32x64x8x64, .i32⟩
  | 36 => ⟨S32x64x8x64, .i32⟩
  | 37 => ⟨S32x64x8x64x1, .i32⟩
  | 38 => ⟨S32x64x8x64x1, .i32⟩
  | 39 => ⟨S32x64x8x64x2, .i32⟩
  | 40 => ⟨S8x32x64x8x64, .f32⟩
  | 41 => ⟨S32x8x32x64x8x64, .f32⟩
  | 42 => ⟨S_, .f32⟩
  | 43 => ⟨S32x8x32x64x8x64, .f32⟩
  | 44 => ⟨S32x8x32x64x8x64, .f32⟩
  | 45 => ⟨S1x8x32x64x8x64, .f32⟩
  | 46 => ⟨S32x8x32x64x8x64, .f32⟩
  | 47 => ⟨S32x8x32x64x8x64, .f32⟩
  | 48 => ⟨S1x1x1x64x1x64, .i1⟩
  | 49 => ⟨S_, .f32⟩
  | 50 => ⟨S_, .f32⟩
  | 51 => ⟨S32x8x32x64x8x64, .i1⟩
  | 52 => ⟨S32x8x32x64x8x64, .f32⟩
  | 53 => ⟨S32x8x32x64x8x64, .f32⟩
  | 54 => ⟨S8x16x32x32x64, .f32⟩
  | 55 => ⟨S32x8x32x64x16, .f32⟩
  | 56 => ⟨S_, .f32⟩
  | 57 => ⟨S32x8x32x64x16, .f32⟩
  | 58 => ⟨S32x8x32x64x16, .f32⟩
  | 59 => ⟨S32x8x32x64x512, .f32⟩
  | 60 => ⟨S32x8x32x64x528, .f32⟩
  | 61 => ⟨S_, .f32⟩
  | 62 => ⟨S32x8x32x64, .f32⟩
  | 63 => ⟨S_, .f32⟩
  | 64 => ⟨S32x8x32x64, .f32⟩
  | 65 => ⟨S32x8x32x64, .f32⟩
  | 66 => ⟨S32x8x32x64x1, .f32⟩
  | 67 => ⟨S32x8x32x64x528, .f32⟩
  | 68 => ⟨S32x8x32x64x528, .f32⟩
  | 69 => ⟨S32x8x32x64x528, .f32⟩
  | 70 => ⟨S_, .f32⟩
  | 71 => ⟨S32x8x32x64, .f32⟩
  | 72 => ⟨S32x8x32x64x1, .f32⟩
  | 73 => ⟨S32x8x32x64x528, .f32⟩
  | 74 => ⟨S32x8x32x64x528, .f32⟩
  | 75 => ⟨S32x8x32x64x512, .f32⟩
  | 76 => ⟨S32x8x32x64x8x64, .f32⟩
  | 77 => ⟨S32x8x32x64x16, .f32⟩
  | 78 => ⟨S32x32x8x64x64, .f32⟩
  | 79 => ⟨S32x32x64x8x64, .f32⟩
  | 80 => ⟨S8x64x32x32x64, .f32⟩
  | 81 => ⟨S32x32x64x8x64, .f32⟩
  | 82 => ⟨S32x32x64x8x64, .f32⟩
  | 83 => ⟨S32x2048x512, .f32⟩
  | 84 => ⟨S32x2048x512, .f32⟩
  | 85 => ⟨S32x2048x512, .f32⟩
  | 86 => ⟨S_, .f32⟩
  | 87 => ⟨S32x2048x512, .f32⟩
  | 88 => ⟨S32x2048x512, .f32⟩
  | 89 => ⟨S_, .f32⟩
  | 90 => ⟨S32x2048x512, .f32⟩
  | 91 => ⟨S32x2048x512, .f32⟩
  | 92 => ⟨S32x2048x512, .f32⟩
  | 93 => ⟨S32x2048x512, .f32⟩
  | 94 => ⟨S32x2048x1024, .f32⟩
  | 95 => ⟨S32x2048x1024, .f32⟩
  | 96 => ⟨S32x2048x1024, .f32⟩
  | 97 => ⟨S65536x1024, .f32⟩
  | _ => ⟨S32x2048x512, .f32⟩

abbrev hbmTy (i : Nat) : BufTy := match i / 128 with
  | 0 => hbmTy0_0 i
  | 1 => hbmTy0_1 i
  | _ => ⟨S32x2048x512, .f32⟩

abbrev bufTy : (tb : Table) → Fin (tcTables nBuf tb) → BufTy
  | .hbm, ⟨i, _⟩ => hbmTy i
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c : Ref sig .tc := ⟨.hbm, 64, rfl⟩
abbrev main_v37 : Ref sig .tc := ⟨.hbm, 65, rfl⟩
abbrev main_v38 : Ref sig .tc := ⟨.hbm, 66, rfl⟩
abbrev main_c_4 : Ref sig .tc := ⟨.hbm, 67, rfl⟩
abbrev main_c_5 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_6 : Ref sig .tc := ⟨.hbm, 81, rfl⟩
abbrev main_v46 : Ref sig .tc := ⟨.hbm, 82, rfl⟩
abbrev main_v47 : Ref sig .tc := ⟨.hbm, 83, rfl⟩
abbrev main_c_7 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_c_8 : Ref sig .tc := ⟨.hbm, 90, rfl⟩
abbrev main_v53 : Ref sig .tc := ⟨.hbm, 91, rfl⟩
abbrev main_v54 : Ref sig .tc := ⟨.hbm, 92, rfl⟩
abbrev main_c_9 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_10 : Ref sig .tc := ⟨.hbm, 100, rfl⟩
abbrev main_v61 : Ref sig .tc := ⟨.hbm, 101, rfl⟩
abbrev main_v62 : Ref sig .tc := ⟨.hbm, 102, rfl⟩
abbrev main_c_11 : Ref sig .tc := ⟨.hbm, 103, rfl⟩
abbrev main_c_12 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_c_13 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_c_14 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_c_15 : Ref sig .tc := ⟨.hbm, 136, rfl⟩
abbrev main_v87 : Ref sig .tc := ⟨.hbm, 137, rfl⟩
abbrev main_v88 : Ref sig .tc := ⟨.hbm, 138, rfl⟩
abbrev main_c_16 : Ref sig .tc := ⟨.hbm, 139, rfl⟩
abbrev main_c_17 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_c_18 : Ref sig .tc := ⟨.hbm, 149, rfl⟩
abbrev main_v92 : Ref sig .tc := ⟨.hbm, 150, rfl⟩
abbrev main_v93 : Ref sig .tc := ⟨.hbm, 151, rfl⟩
abbrev main_c_19 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_c_20 : Ref sig .tc := ⟨.hbm, 156, rfl⟩
abbrev main_v97 : Ref sig .tc := ⟨.hbm, 157, rfl⟩
abbrev main_v98 : Ref sig .tc := ⟨.hbm, 158, rfl⟩
abbrev main_c_21 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_cst_22 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_cst_23 : Ref sig .tc := ⟨.hbm, 177, rfl⟩
abbrev main_call4_v0 : Ref sig .tc := ⟨.hbm, 178, rfl⟩
abbrev main_call4_v1 : Ref sig .tc := ⟨.hbm, 179, rfl⟩
abbrev main_call4_v2 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_cst_24 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_cst_25 : Ref sig .tc := ⟨.hbm, 189, rfl⟩
abbrev main_v122 : Ref sig .tc := ⟨.hbm, 190, rfl⟩
abbrev main_cst_26 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_cst_27 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_call5_v0 : Ref sig .tc := ⟨.hbm, 212, rfl⟩
abbrev main_call5_v1 : Ref sig .tc := ⟨.hbm, 213, rfl⟩
abbrev main_call5_cst : Ref sig .tc := ⟨.hbm, 214, rfl⟩
abbrev main_call5_v2 : Ref sig .tc := ⟨.hbm, 215, rfl⟩
abbrev main_call5_v3 : Ref sig .tc := ⟨.hbm, 216, rfl⟩
abbrev main_call5_cst_0 : Ref sig .tc := ⟨.hbm, 217, rfl⟩
abbrev main_call5_v4 : Ref sig .tc := ⟨.hbm, 218, rfl⟩
abbrev main_call5_v5 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩

abbrev nD : Nat := 1
abbrev τ : Topo := Topo.v7x

variable {F : FTy → Type} [FloatOps F]
-- ==== Kernel2.lean ====
abbrev S32x2048x1024 : Shape := ⟨3, ![32, 2048, 1024]⟩
abbrev S16x1024 : Shape := ⟨2, ![16, 1024]⟩
abbrev S1024 : Shape := ⟨1, ![1024]⟩
abbrev S1024x4624 : Shape := ⟨2, ![1024, 4624]⟩
abbrev S16 : Shape := ⟨1, ![16]⟩
abbrev S5x1024 : Shape := ⟨2, ![5, 1024]⟩
abbrev S64 : Shape := ⟨1, ![64]⟩
abbrev S1024x16 : Shape := ⟨2, ![1024, 16]⟩
abbrev S1024x4 : Shape := ⟨2, ![1024, 4]⟩
abbrev S1024x8 : Shape := ⟨2, ![1024, 8]⟩
abbrev S4 : Shape := ⟨1, ![4]⟩
abbrev S8 : Shape := ⟨1, ![8]⟩
abbrev S1024x2560 : Shape := ⟨2, ![1024, 2560]⟩
abbrev S_ : Shape := ⟨0, ![]⟩
abbrev S1024x128 : Shape := ⟨2, ![1024, 128]⟩
abbrev S1024x2048 : Shape := ⟨2, ![1024, 2048]⟩
abbrev S1024x4864 : Shape := ⟨2, ![1024, 4864]⟩
abbrev S512 : Shape := ⟨1, ![512]⟩
abbrev S1x1024 : Shape := ⟨2, ![1, 1024]⟩
abbrev S128 : Shape := ⟨1, ![128]⟩
abbrev S256 : Shape := ⟨1, ![256]⟩
abbrev S1x256 : Shape := ⟨2, ![1, 256]⟩
abbrev S16x1 : Shape := ⟨2, ![16, 1]⟩
abbrev S16x128 : Shape := ⟨2, ![16, 128]⟩
abbrev S1x64 : Shape := ⟨2, ![1, 64]⟩
abbrev S8x64 : Shape := ⟨2, ![8, 64]⟩
abbrev S1x512 : Shape := ⟨2, ![1, 512]⟩
abbrev S512x1 : Shape := ⟨2, ![512, 1]⟩
abbrev S512x512 : Shape := ⟨2, ![512, 512]⟩
abbrev S65536x1024 : Shape := ⟨2, ![65536, 1024]⟩
abbrev S65536x512 : Shape := ⟨2, ![65536, 512]⟩
abbrev S65536x256 : Shape := ⟨2, ![65536, 256]⟩
abbrev S16x65536 : Shape := ⟨2, ![16, 65536]⟩
abbrev S128x16x512 : Shape := ⟨3, ![128, 16, 512]⟩
abbrev S512x1024 : Shape := ⟨2, ![512, 1024]⟩
abbrev S512x256 : Shape := ⟨2, ![512, 256]⟩
abbrev S16x512 : Shape := ⟨2, ![16, 512]⟩
abbrev S1x16x512 : Shape := ⟨3, ![1, 16, 512]⟩
abbrev S544x1024 : Shape := ⟨2, ![544, 1024]⟩
abbrev S1024x512 : Shape := ⟨2, ![1024, 512]⟩
abbrev S544x512 : Shape := ⟨2, ![544, 512]⟩
abbrev S5x512 : Shape := ⟨2, ![5, 512]⟩
abbrev S1024x256 : Shape := ⟨2, ![1024, 256]⟩
abbrev S512x128 : Shape := ⟨2, ![512, 128]⟩
abbrev S8x512 : Shape := ⟨2, ![8, 512]⟩
abbrev S32x512 : Shape := ⟨2, ![32, 512]⟩

abbrev nBuf : Space → Nat
  | .hbm => 92
  | .vmem => 42
  | .smem => 0
  | _ => 0

abbrev bufTy : (tb : Table) → Fin (tcTables nBuf tb) → BufTy
  | .hbm, ⟨0, _⟩ => ⟨S32x2048x1024, .f32⟩
  | .hbm, ⟨1, _⟩ => ⟨S16x1024, .f32⟩
  | .hbm, ⟨2, _⟩ => ⟨S1024, .f32⟩
  | .hbm, ⟨3, _⟩ => ⟨S1024x4624, .f32⟩
  | .hbm, ⟨4, _⟩ => ⟨S16, .f32⟩
  | .hbm, ⟨5, _⟩ => ⟨S5x1024, .f32⟩
  | .hbm, ⟨6, _⟩ => ⟨S64, .f32⟩
  | .hbm, ⟨7, _⟩ => ⟨S64, .f32⟩
  | .hbm, ⟨8, _⟩ => ⟨S1024x16, .f32⟩
  | .hbm, ⟨9, _⟩ => ⟨S1024x4, .f32⟩
  | .hbm, ⟨10, _⟩ => ⟨S1024x4, .f32⟩
  | .hbm, ⟨11, _⟩ => ⟨S1024x4, .f32⟩
  | .hbm, ⟨12, _⟩ => ⟨S1024x4, .f32⟩
  | .hbm, ⟨13, _⟩ => ⟨S1024x8, .f32⟩
  | .hbm, ⟨14, _⟩ => ⟨S1024x8, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S8, .f32⟩
  | .hbm, ⟨20, _⟩ => ⟨S8, .f32⟩
  | .hbm, ⟨21, _⟩ => ⟨S1024x2560, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1024x2048, .f32⟩
  | .hbm, ⟨29, _⟩ => ⟨S1024x4864, .f32⟩
  | .hbm, ⟨30, _⟩ => ⟨S1024x4864, .bf16⟩
  | .hbm, ⟨31, _⟩ => ⟨S512, .i32⟩
  | .hbm, ⟨32, _⟩ => ⟨S_, .i32⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S_, .i32⟩
  | .hbm, ⟨38, _⟩ => ⟨S512, .i32⟩
  | .hbm, ⟨39, _⟩ => ⟨S512, .i1⟩
  | .hbm, ⟨40, _⟩ => ⟨S512, .i32⟩
  | .hbm, ⟨41, _⟩ => ⟨S512, .i32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S512, .i1⟩
  | .hbm, ⟨46, _⟩ => ⟨S_, .i32⟩
  | .hbm, ⟨47, _⟩ => ⟨S512, .i32⟩
  | .hbm, ⟨48, _⟩ => ⟨S512, .i32⟩
  | .hbm, ⟨49, _⟩ => ⟨S512, .i32⟩
  | .hbm, ⟨50, _⟩ => ⟨S1x1024, .f32⟩
  | .hbm, ⟨51, _⟩ => ⟨S1024x16, .f32⟩
  | .hbm, ⟨52, _⟩ => ⟨S16x1024, .f32⟩
  | .hbm, ⟨53, _⟩ => ⟨S16x1024, .bf16⟩
  | .hbm, ⟨54, _⟩ => ⟨S_, .i32⟩
  | .hbm, ⟨55, _⟩ => ⟨S_, .f32⟩
  | .hbm, ⟨56, _⟩ => ⟨S128, .f32⟩
  | .hbm, ⟨57, _⟩ => ⟨S_, .i32⟩
  | .hbm, ⟨58, _⟩ => ⟨S_, .f32⟩
  | .hbm, ⟨59, _⟩ => ⟨S128, .f32⟩
  | .hbm, ⟨60, _⟩ => ⟨S256, .f32⟩
  | .hbm, ⟨61, _⟩ => ⟨S1x256, .f32⟩
  | .hbm, ⟨62, _⟩ => ⟨S16, .f32⟩
  | .hbm, ⟨63, _⟩ => ⟨S16x1, .f32⟩
  | .hbm, ⟨64, _⟩ => ⟨S16x128, .f32⟩
  | .hbm, ⟨65, _⟩ => ⟨S1x64, .f32⟩
  | .hbm, ⟨66, _⟩ => ⟨S8x64, .f32⟩
  | .hbm, ⟨67, _⟩ => ⟨S512, .f32⟩
  | .hbm, ⟨68, _⟩ => ⟨S1x512, .f32⟩
  | .hbm, ⟨69, _⟩ => ⟨S1x64, .f32⟩
  | .hbm, ⟨70, _⟩ => ⟨S8x64, .f32⟩
  | .hbm, ⟨71, _⟩ => ⟨S512, .f32⟩
  | .hbm, ⟨72, _⟩ => ⟨S1x512, .f32⟩
  | .hbm, ⟨73, _⟩ => ⟨S512x1, .i32⟩
  | .hbm, ⟨74, _⟩ => ⟨S1x512, .i32⟩
  | .hbm, ⟨75, _⟩ => ⟨S512x512, .i32⟩
  | .hbm, ⟨76, _⟩ => ⟨S512x512, .i32⟩
  | .hbm, ⟨77, _⟩ => ⟨S512x512, .i1⟩
  | .hbm, ⟨78, _⟩ => ⟨S512x512, .bf16⟩
  | .hbm, ⟨79, _⟩ => ⟨S65536x1024, .f32⟩
  | .hbm, ⟨80, _⟩ => ⟨S65536x512, .bf16⟩
  | .hbm, ⟨81, _⟩ => ⟨S65536x512, .bf16⟩
  | .hbm, ⟨82, _⟩ => ⟨S65536x512, .bf16⟩
  | .hbm, ⟨83, _⟩ => ⟨S65536x512, .bf16⟩
  | .hbm, ⟨84, _⟩ => ⟨S65536x512, .bf16⟩
  | .hbm, ⟨85, _⟩ => ⟨S65536x256, .f32⟩
  | .hbm, ⟨86, _⟩ => ⟨S16x65536, .f32⟩
  | .hbm, ⟨87, _⟩ => ⟨S65536x512, .bf16⟩
  | .hbm, ⟨88, _⟩ => ⟨S65536x512, .bf16⟩
  | .hbm, ⟨89, _⟩ => ⟨S65536x512, .bf16⟩
  | .hbm, ⟨90, _⟩ => ⟨S65536x512, .bf16⟩
  | .hbm, ⟨91, _⟩ => ⟨S128x16x512, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1024x4864, .bf16⟩
  | .local _ .vmem, ⟨8, _⟩ => ⟨S16x1024, .bf16⟩
  | .local _ .vmem, ⟨9, _⟩ => ⟨S16x1024, .f32⟩
  | .local _ .vmem, ⟨10, _⟩ => ⟨S1x256, .f32⟩
  | .local _ .vmem, ⟨11, _⟩ => ⟨S16x128, .f32⟩
  | .local _ .vmem, ⟨12, _⟩ => ⟨S5x1024, .f32⟩
  | .local _ .vmem, ⟨13, _⟩ => ⟨S1x512, .f32⟩
  | .local _ .vmem, ⟨14, _⟩ => ⟨S1x512, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x256, .f32⟩
  | .local _ .vmem, ⟨27, _⟩ => ⟨S512x256, .f32⟩
  | .local _ .vmem, ⟨28, _⟩ => ⟨S16x512, .f32⟩
  | .local _ .vmem, ⟨29, _⟩ => ⟨S16x512, .f32⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S1x16x512, .f32⟩
  | .local _ .vmem, ⟨39, _⟩ => ⟨S1x16x512, .f32⟩
  | .local _ .vmem, ⟨40, _⟩ => ⟨S544x1024, .bf16⟩
  | .local _ .vmem, ⟨41, _⟩ => ⟨S544x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_c_0 : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_2 : Ref sig .tc := ⟨.hbm, 54, rfl⟩
abbrev main_call3_v0 : Ref sig .tc := ⟨.hbm, 55, rfl⟩
abbrev main_v25 : Ref sig .tc := ⟨.hbm, 56, rfl⟩
abbrev main_c_3 : Ref sig .tc := ⟨.hbm, 57, rfl⟩
abbrev main_call4_v0 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47_0 : Ref sig .tc := ⟨.hbm, 80, rfl⟩
abbrev main_v47_1 : Ref sig .tc := ⟨.hbm, 81, rfl⟩
abbrev main_v47_2 : Ref sig .tc := ⟨.hbm, 82, rfl⟩
abbrev main_v47_3 : Ref sig .tc := ⟨.hbm, 83, rfl⟩
abbrev main_v47_4 : Ref sig .tc := ⟨.hbm, 84, rfl⟩
abbrev main_v47_5 : Ref sig .tc := ⟨.hbm, 85, rfl⟩
abbrev main_v47_6 : Ref sig .tc := ⟨.hbm, 86, rfl⟩
abbrev main_v47_7 : Ref sig .tc := ⟨.hbm, 87, rfl⟩
abbrev main_v47_8 : Ref sig .tc := ⟨.hbm, 88, rfl⟩
abbrev main_v47_9 : Ref sig .tc := ⟨.hbm, 89, rfl⟩
abbrev main_v47_10 : Ref sig .tc := ⟨.hbm, 90, rfl⟩
abbrev main_v47_11 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_scratch0 : Ref sig .tc := ⟨.vmem, 40, rfl⟩
abbrev cc0_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4864 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x16x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference2Ideal.lean ====
abbrev S32x2048x1024 : Shape := ⟨3, ![32, 2048, 1024]⟩
abbrev S16x1024 : Shape := ⟨2, ![16, 1024]⟩
abbrev S1024 : Shape := ⟨1, ![1024]⟩
abbrev S1024x4624 : Shape := ⟨2, ![1024, 4624]⟩
abbrev S16 : Shape := ⟨1, ![16]⟩
abbrev S5x1024 : Shape := ⟨2, ![5, 1024]⟩
abbrev S64 : Shape := ⟨1, ![64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4624 : Shape := ⟨3, ![32, 2048, 4624]⟩
abbrev S32x2048x512 : Shape := ⟨3, ![32, 2048, 512]⟩
abbrev S32x2048x8x64 : Shape := ⟨4, ![32, 2048, 8, 64]⟩
abbrev S32x2048x8 : Shape := ⟨3, ![32, 2048, 8]⟩
abbrev S32x2048x8x1 : Shape := ⟨4, ![32, 2048, 8, 1]⟩
abbrev S1x1x1x64 : Shape := ⟨4, ![1, 1, 1, 64]⟩
abbrev S65536x512 : Shape := ⟨2, ![65536, 512]⟩

abbrev nBuf : Space → Nat
  | .hbm => 83
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S16x1024, .f32⟩
  | .hbm, ⟨2, _⟩ => ⟨S1024, .f32⟩
  | .hbm, ⟨3, _⟩ => ⟨S1024x4624, .f32⟩
  | .hbm, ⟨4, _⟩ => ⟨S16, .f32⟩
  | .hbm, ⟨5, _⟩ => ⟨S5x1024, .f32⟩
  | .hbm, ⟨6, _⟩ => ⟨S64, .f32⟩
  | .hbm, ⟨7, _⟩ => ⟨S64, .f32⟩
  | .hbm, ⟨8, _⟩ => ⟨S32x2048x1024, .f32⟩
  | .hbm, ⟨9, _⟩ => ⟨S_, .f32⟩
  | .hbm, ⟨10, _⟩ => ⟨S32x2048, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S32x2048x1, .f32⟩
  | .hbm, ⟨19, _⟩ => ⟨S32x2048x1024, .f32⟩
  | .hbm, ⟨20, _⟩ => ⟨S32x2048x1024, .f32⟩
  | .hbm, ⟨21, _⟩ => ⟨S1x1x1024, .f32⟩
  | .hbm, ⟨22, _⟩ => ⟨S32x2048x1024, .f32⟩
  | .hbm, ⟨23, _⟩ => ⟨S32x2048x1024, .f32⟩
  | .hbm, ⟨24, _⟩ => ⟨S32x2048x4624, .f32⟩
  | .hbm, ⟨25, _⟩ => ⟨S32x2048x512, .f32⟩
  | .hbm, ⟨26, _⟩ => ⟨S32x2048x512, .f32⟩
  | .hbm, ⟨27, _⟩ => ⟨S32x2048x512, .f32⟩
  | .hbm, ⟨28, _⟩ => ⟨S32x2048x512, .f32⟩
  | .hbm, ⟨29, _⟩ => ⟨S32x2048x512, .f32⟩
  | .hbm, ⟨30, _⟩ => ⟨S32x2048x512, .f32⟩
  | .hbm, ⟨31, _⟩ => ⟨S32x2048x512, .f32⟩
  | .hbm, ⟨32, _⟩ => ⟨S32x2048x8x64, .f32⟩
  | .hbm, ⟨33, _⟩ => ⟨S32x2048x8x64, .f32⟩
  | .hbm, ⟨34, _⟩ => ⟨S_, .f32⟩
  | .hbm, ⟨35, _⟩ => ⟨S32x2048x8, .f32⟩
  | .hbm, ⟨36, _⟩ => ⟨S32x2048x8x1, .f32⟩
  | .hbm, ⟨37, _⟩ => ⟨S_, .f32⟩
  | .hbm, ⟨38, _⟩ => ⟨S32x2048x8x1, .f32⟩
  | .hbm, ⟨39, _⟩ => ⟨S32x2048x8x1, .f32⟩
  | .hbm, ⟨40, _⟩ => ⟨S_, .f32⟩
  | .hbm, ⟨41, _⟩ => ⟨S32x2048x8x1, .f32⟩
  | .hbm, ⟨42, _⟩ => ⟨S32x2048x8x1, .f32⟩
  | .hbm, ⟨43, _⟩ => ⟨S32x2048x8x1, .f32⟩
  | .hbm, ⟨44, _⟩ => ⟨S32x2048x8x64, .f32⟩
  | .hbm, ⟨45, _⟩ => ⟨S32x2048x8x64, .f32⟩
  | .hbm, ⟨46, _⟩ => ⟨S1x1x1x64, .f32⟩
  | .hbm, ⟨47, _⟩ => ⟨S32x2048x8x64, .f32⟩
  | .hbm, ⟨48, _⟩ => ⟨S32x2048x8x64, .f32⟩
  | .hbm, ⟨49, _⟩ => ⟨S_, .f32⟩
  | .hbm, ⟨50, _⟩ => ⟨S32x2048x8x64, .f32⟩
  | .hbm, ⟨51, _⟩ => ⟨S32x2048x8x64, .f32⟩
  | .hbm, ⟨52, _⟩ => ⟨S32x2048x8x64, .f32⟩
  | .hbm, ⟨53, _⟩ => ⟨S32x2048x8x64, .f32⟩
  | .hbm, ⟨54, _⟩ => ⟨S_, .f32⟩
  | .hbm, ⟨55, _⟩ => ⟨S32x2048x8, .f32⟩
  | .hbm, ⟨56, _⟩ => ⟨S32x2048x8x1, .f32⟩
  | .hbm, ⟨57, _⟩ => ⟨S_, .f32⟩
  | .hbm, ⟨58, _⟩ => ⟨S32x2048x8x1, .f32⟩
  | .hbm, ⟨59, _⟩ => ⟨S32x2048x8x1, .f32⟩
  | .hbm, ⟨60, _⟩ => ⟨S_, .f32⟩
  | .hbm, ⟨61, _⟩ => ⟨S32x2048x8x1, .f32⟩
  | .hbm, ⟨62, _⟩ => ⟨S32x2048x8x1, .f32⟩
  | .hbm, ⟨63, _⟩ => ⟨S32x2048x8x1, .f32⟩
  | .hbm, ⟨64, _⟩ => ⟨S32x2048x8x64, .f32⟩
  | .hbm, ⟨65, _⟩ => ⟨S32x2048x8x64, .f32⟩
  | .hbm, ⟨66, _⟩ => ⟨S1x1x1x64, .f32⟩
  | .hbm, ⟨67, _⟩ => ⟨S32x2048x8x64, .f32⟩
  | .hbm, ⟨68, _⟩ => ⟨S32x2048x8x64, .f32⟩
  | .hbm, ⟨69, _⟩ => ⟨S65536x512, .f32⟩
  | .hbm, ⟨70, _⟩ => ⟨S65536x512, .bf16⟩
  | .hbm, ⟨71, _⟩ => ⟨S65536x512, .f32⟩
  | .hbm, ⟨72, _⟩ => ⟨S65536x512, .bf16⟩
  | .hbm, ⟨73, _⟩ => ⟨S65536x512, .f32⟩
  | .hbm, ⟨74, _⟩ => ⟨S65536x512, .bf16⟩
  | .hbm, ⟨75, _⟩ => ⟨S65536x512, .f32⟩
  | .hbm, ⟨76, _⟩ => ⟨S65536x512, .bf16⟩
  | .hbm, ⟨77, _⟩ => ⟨S65536x512, .f32⟩
  | .hbm, ⟨78, _⟩ => ⟨S65536x512, .bf16⟩
  | .hbm, ⟨79, _⟩ => ⟨S65536x512, .f32⟩
  | .hbm, ⟨80, _⟩ => ⟨S65536x512, .bf16⟩
  | .hbm, ⟨81, _⟩ => ⟨S65536x512, .f32⟩
  | .hbm, ⟨82, _⟩ => ⟨S65536x512, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Proof.Block.lean ====
/- What the body of the call computes from the blocks it loads: the weights of one pair of heads at one row of the
   grid (`pairScores`, `metaScores`, `pairOut`), the gated output of the pair (`gatedPair`), the normalised and gated mLSTM
   row (`mlstmRow`), and the projection added to the stream (`projected`). Each definition repeats the body's operations
   in the body's order, so that a store's payload is one of them by definition. -/
module

public import proofs.«01_k».proof.Proof.Gen.KernelIdeal

@[expose] public section

noncomputable section

namespace Cert.Block

open Cert.KernelIdeal Cert.KernelIdeal.Gen Idealize.ShloMosaic

variable {F : FTy → Type} [FloatOps F]

/-- The lanes of the first head of a pair. -/
def firstHead : IVec S64x128 1 := cmpi .slt (iota .tc S64x128 32 [1] iota_S64x128_d1_w32) (broadcast S64x128 64#32)

/-- The queries of a pair of heads, one head below the other, each with the other head's lanes at zero. -/
def pairQueries (q : Vec F S64x128 .bf16) : FVec F S128x128 .bf16 :=
  let q' : FVec F S64x128 .bf16 := shapeCast S64x128 q shapeCasts_S64x128_S64x128
  let z : FVec F S64x128 .bf16 := broadcast S64x128 (Scalar.ofBits .bf16 0x0000#16)
  concatenate S128x128 0 [⟨S64x128, select firstHead q' z⟩, ⟨S64x128, select firstHead z q'⟩] concatenates_S64x128_S64x128_S128x128_d0

/-- The scores of the pair's queries against the 512 keys of the window, with their bias. -/
def pairScores (q : Vec F S64x128 .bf16) (k : Vec F S512x128 .bf16) (b : Vec F S1x1x128x512 .f32) : FVec F S128x512 .f32 :=
  addf (matmul dot_S128x128_S512x128_S128x512_1_1_0_0_n_n none (pairQueries q) (shapeCast S512x128 k shapeCasts_S512x128_S512x128) (constant S128x512 .f32 0x00000000#32))
    (shapeCast S128x512 b shapeCasts_S1x1x128x512_S128x512)

/-- The scores of the pair's queries against the 16 meta keys. -/
def metaScores (q : Vec F S64x128 .bf16) (mk : Vec F S16x128 .bf16) : FVec F S128x16 .f32 :=
  matmul dot_S128x128_S16x128_S128x16_1_1_0_0_n_n none (pairQueries q) (shapeCast S16x128 mk shapeCasts_S16x128_S16x128) (constant S128x16 .f32 0x00000000#32)

/-- Each row's largest score, as a column. -/
def topScore (s : FVec F S128x512 .f32) (sm : FVec F S128x16 .f32) : FVec F S128x1 .f32 :=
  maximumf (shapeCast S128x1 (multiReduction .maximumf [1] S128 s 0xFF800000#32 reduces_S128x512_S128 (.inl rfl) rfl) shapeCasts_S128_S128x1)
    (shapeCast S128x1 (multiReduction .maximumf [1] S128 sm 0xFF800000#32 reduces_S128x16_S128 (.inl rfl) rfl) shapeCasts_S128_S128x1)

/-- The unnormalised weights of the window's keys. -/
def pairWeights (s : FVec F S128x512 .f32) (mx : FVec F S128x1 .f32) : FVec F S128x512 .bf16 :=
  truncf .bf16 (exp (subf s (broadcastTo S128x512 mx broadcasts_S128x1_S128x512))) bitsLt_bf16_f32

/-- The unnormalised weights of the meta keys. -/
def metaWeights (sm : FVec F S128x16 .f32) (mx : FVec F S128x1 .f32) : FVec F S128x16 .bf16 :=
  truncf .bf16 (exp (subf sm (broadcastTo S128x16 mx broadcasts_S128x1_S128x16))) bitsLt_bf16_f32

/-- Weighted values in the first 128 columns, sums of the weights in the last 128. -/
def weighted (e : FVec F S128x512 .bf16) (em : FVec F S128x16 .bf16) (v : Vec F S512x128 .bf16) (mv : Vec F S16x128 .bf16) : FVec F S128x256 .f32 :=
  addf
    (matmul dot_S128x512_S512x256_S128x256_1_0_0_1_n_n none e
      (concatenate S512x256 1 [⟨S512x128, shapeCast S512x128 v shapeCasts_S512x128_S512x128⟩, ⟨S512x128, broadcast S512x128 (Scalar.ofBits .bf16 0x3F80#16)⟩] concatenates_S512x128_S512x128_S512x256_d1)
      (constant S128x256 .f32 0x00000000#32))
    (matmul dot_S128x16_S16x256_S128x256_1_0_0_1_n_n none em
      (concatenate S16x256 1 [⟨S16x128, shapeCast S16x128 mv shapeCasts_S16x128_S16x128⟩, ⟨S16x128, broadcast S16x128 (Scalar.ofBits .bf16 0x3F80#16)⟩] concatenates_S16x128_S16x128_S16x256_d1)
      (constant S128x256 .f32 0x00000000#32))

/-- The quotient of the two halves of `weighted`. -/
def quotient (o : FVec F S128x256 .f32) : FVec F S128x128 .f32 :=
  divf (extractStridedSlice S128x128 ![0, 0] o slices_S128x256_o0_0_S128x128) (extractStridedSlice S128x128 ![0, 128] o slices_S128x256_o0_128_S128x128)

/-- Each head's rows read at its own lanes. -/
def bothHeads (on : FVec F S128x128 .f32) : FVec F S64x128 .f32 :=
  select firstHead (extractStridedSlice S64x128 ![0, 0] on slices_S128x128_o0_0_S64x128) (extractStridedSlice S64x128 ![64, 0] on slices_S128x128_o64_0_S64x128)

/-- The attention output of one pair of heads at one row of the grid. -/
def pairOut (q : Vec F S64x128 .bf16) (k : Vec F S512x128 .bf16) (b : Vec F S1x1x128x512 .f32) (mk : Vec F S16x128 .bf16)
    (v : Vec F S512x128 .bf16) (mv : Vec F S16x128 .bf16) : FVec F S64x128 .f32 :=
  let s := pairScores q k b
  let sm := metaScores q mk
  let mx := topScore s sm
  bothHeads (quotient (weighted (pairWeights s mx) (metaWeights sm mx) v mv))

/-- `1 / (1 + exp(0 − x))` times `x`, over a block of any shape. -/
def gate (s : Shape) (x : FVec F s .f32) : FVec F s .f32 :=
  mulf x (divf (broadcast s (Scalar.ofBits .f32 0x3F800000#32))
    (addf (broadcast s (Scalar.ofBits .f32 0x3F800000#32)) (exp (subf (broadcast s (Scalar.ofBits .f32 0x00000000#32)) x))))

/-- The pair's output times the gate: what the body stores for the pair. -/
def gatedPair (q : Vec F S64x128 .bf16) (k : Vec F S512x128 .bf16) (b : Vec F S1x1x128x512 .f32) (mk : Vec F S16x128 .bf16)
    (v : Vec F S512x128 .bf16) (mv : Vec F S16x128 .bf16) (z : Vec F S64x128 .bf16) : FVec F S64x128 .bf16 :=
  shapeCast S64x128 (truncf .bf16 (mulf (pairOut q k b mk v mv)
    (gate S64x128 (extf .f32 (shapeCast S64x128 z shapeCasts_S64x128_S64x128 : FVec F S64x128 .bf16) bitsLt_bf16_f32))) bitsLt_bf16_f32) shapeCasts_S64x128_S64x128

/-- A bf16 block read as f32. -/
def widen (x : Vec F S64x512 .bf16) : FVec F S64x512 .f32 :=
  extf .f32 (shapeCast S64x512 x shapeCasts_S64x512_S64x512 : FVec F S64x512 .bf16) bitsLt_bf16_f32

/-- The two directions' sum times the output gate. -/
def gatedSum (hf hb o : Vec F S64x512 .bf16) : FVec F S64x512 .f32 :=
  mulf (divf (broadcast S64x512 (Scalar.ofBits .f32 0x3F800000#32))
    (addf (broadcast S64x512 (Scalar.ofBits .f32 0x3F800000#32)) (exp (subf (broadcast S64x512 (Scalar.ofBits .f32 0x00000000#32)) (widen o)))))
    (addf (widen hf) (widen hb))

/-- One head's 128 columns divided by their root mean square, times the head's gains. -/
def normed (x : FVec F S64x128 .f32) (g : FVec F S1x128 .f32) : FVec F S64x128 .f32 :=
  mulf (mulf x (broadcastTo S64x128 (rsqrt (addf (divf
      (shapeCast S64x1 (multiReduction .add [1] S64 (mulf x x) 0x00000000#32 reduces_S64x128_S64 (.inl rfl) rfl) shapeCasts_S64_S64x1)
      (broadcast S64x1 (Scalar.ofBits .f32 0x43000000#32))) (broadcast S64x1 (Scalar.ofBits .f32 0x358637BD#32)))) broadcasts_S64x1_S64x128))
    (broadcastTo S64x128 g broadcasts_S1x128_S64x128)

/-- The four heads' normalised columns side by side. -/
def normedHeads (og : FVec F S64x512 .f32) (g : Vec F S1x512 .f32) : FVec F S64x512 .f32 :=
  let g' : FVec F S1x512 .f32 := shapeCast S1x512 g shapeCasts_S1x512_S1x512
  concatenate S64x512 1
    [⟨S64x128, normed (extractStridedSlice S64x128 ![0, 0] og slices_S64x512_o0_0_S64x128) (extractStridedSlice S1x128 ![0, 0] g' slices_S1x512_o0_0_S1x128)⟩,
      ⟨S64x128, normed (extractStridedSlice S64x128 ![0, 128] og slices_S64x512_o0_128_S64x128) (extractStridedSlice S1x128 ![0, 128] g' slices_S1x512_o0_128_S1x128)⟩,
      ⟨S64x128, normed (extractStridedSlice S64x128 ![0, 256] og slices_S64x512_o0_256_S64x128) (extractStridedSlice S1x128 ![0, 256] g' slices_S1x512_o0_256_S1x128)⟩,
      ⟨S64x128, normed (extractStridedSlice S64x128 ![0, 384] og slices_S64x512_o0_384_S64x128) (extractStridedSlice S1x128 ![0, 384] g' slices_S1x512_o0_384_S1x128)⟩]
    concatenates_S64x128_S64x128_S64x128_S64x128_S64x512_d1

/-- One grid row of the mLSTM branch: what the body stores in the first 512 columns. -/
def mlstmRow (hf hb o : Vec F S64x512 .bf16) (g : Vec F S1x512 .f32) (z : Vec F S64x512 .bf16) : FVec F S64x512 .bf16 :=
  shapeCast S64x512 (truncf .bf16 (mulf (normedHeads (gatedSum hf hb o) g) (gate S64x512 (widen z))) bitsLt_bf16_f32) shapeCasts_S64x512_S64x512

/-- The stream plus the projection of 256 rows. -/
def projected (x : Vec F S256x1024 .f32) (mix : Vec F S256x1024 .bf16) (w : Vec F S1024x1024 .bf16) : FVec F S256x1024 .f32 :=
  addf (shapeCast S256x1024 x shapeCasts_S256x1024_S256x1024)
    (matmul dot_S256x1024_S1024x1024_S256x1024_1_0_0_1_n_n none mix (shapeCast S1024x1024 w shapeCasts_S1024x1024_S1024x1024) (constant S256x1024 .f32 0x00000000#32))

end Cert.Block

end
-- ==== Proof.Softmax.lean ====
/- The softmax the call computes and the softmax written plainly, over the extended reals: dividing the weighted values by
   the weights' sum at the end is weighting by the normalised weights, where no score is `⊤` and the meta scores are real. -/
module

public import Idealize.ShloMosaic.PureOps.Ideal
public import Idealize.ShloMosaic.PureOps.Ideal.Laws

@[expose] public section

noncomputable section

open scoped BigOperators

namespace Cert.Softmax

open Idealize.ShloMosaic

/-- A nonnegative real factor distributes over a finite sum of extended reals. -/
theorem mul_sum {ι : Type} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

/-- The same factor on the right. -/
theorem sum_mul {ι : Type} (c : ℝ) (hc : 0 ≤ c) (S : Finset ι) (f : ι → EReal) :
    (∑ i ∈ S, f i) * (c : EReal) = ∑ i ∈ S, f i * (c : EReal) := by
  rw [mul_comm, mul_sum c hc]; exact Finset.sum_congr rfl fun i _ => mul_comm _ _

/-- Scaling every query is scaling the score. -/
theorem sum_scaled {ι : Type} [Fintype ι] (c : ℝ) (hc : 0 ≤ c) (q k : ι → EReal) :
    ∑ i, q i * (c : EReal) * k i = (∑ i, q i * k i) * (c : EReal) := by
  rw [sum_mul c hc]; exact Finset.sum_congr rfl fun i _ => by rw [mul_assoc, mul_comm (c : EReal), ← mul_assoc]

/-- A finite sum of finite products is finite. -/
theorem sum_mul_coe {ι : Type} [Fintype ι] (q k : ι → EReal) (hq : ∀ i, ∃ r : ℝ, q i = r) (hk : ∀ i, ∃ r : ℝ, k i = r) :
    ∃ r : ℝ, ∑ i, q i * k i = r := by
  choose a ha using hq
  choose b hb using hk
  refine ⟨∑ i, a i * b i, ?_⟩
  have hs : ∀ S : Finset ι, ∑ i ∈ S, q i * k i = ((∑ i ∈ S, a i * b i : ℝ) : EReal) := by
    classical
    intro S
    induction S using Finset.induction_on with
    | empty => simp
    | insert x S hx ih => rw [Finset.sum_insert hx, Finset.sum_insert hx, ih, ha, hb, EReal.coe_add, EReal.coe_mul]
  exact hs Finset.univ

/-- A finite sum of reals, read in the extended reals. -/
theorem sum_coe {ι : Type} (S : Finset ι) (a : ι → ℝ) : ∑ i ∈ S, ((a i : ℝ) : EReal) = ((∑ i ∈ S, a i : ℝ) : EReal) := by
  classical
  induction S using Finset.induction_on with
  | empty => simp
  | insert x S hx ih => rw [Finset.sum_insert hx, Finset.sum_insert hx, ih, EReal.coe_add]

variable {n n' : ℕ}

/-- The largest of the window's scores and the meta scores. -/
def top (s : Fin n → EReal) (sm : Fin n' → EReal) : EReal := max (Finset.univ.sup s) (Finset.univ.sup sm)

/-- The call's form: values and ones weighted alike, divided at the end. -/
def late (s : Fin n → EReal) (sm : Fin n' → EReal) (v : Fin n → EReal) (vm : Fin n' → EReal) : EReal :=
  Ideal.div ((∑ k, Ideal.exp (s k - top s sm) * v k) + ∑ j, Ideal.exp (sm j - top s sm) * vm j)
    ((∑ k, Ideal.exp (s k - top s sm) * 1) + ∑ j, Ideal.exp (sm j - top s sm) * 1)

/-- The plain form: normalised weights over the scores in one row, then the weighted values. -/
def plain (p : Fin (n + n') → EReal) (v : Fin n → EReal) (vm : Fin n' → EReal) : EReal :=
  let M := max ⊥ (Finset.univ.sup p)
  let L := 0 + ∑ i, Ideal.exp (p i - M)
  (∑ k, Ideal.div (Ideal.exp (p (Fin.castAdd n' k) - M)) L * v k) + ∑ j, Ideal.div (Ideal.exp (p (Fin.natAdd n j) - M)) L * vm j

/-- The largest over the joined row is the larger of the two parts' largest. -/
theorem sup_append (p : Fin (n + n') → EReal) :
    Finset.univ.sup p = top (fun k => p (Fin.castAdd n' k)) (fun j => p (Fin.natAdd n j)) := by
  apply le_antisymm
  · refine Finset.sup_le fun i _ => ?_
    refine Fin.addCases (fun k => ?_) (fun j => ?_) i
    · exact le_max_of_le_left (Finset.le_sup (f := fun k => p (Fin.castAdd n' k)) (Finset.mem_univ k))
    · exact le_max_of_le_right (Finset.le_sup (f := fun j => p (Fin.natAdd n j)) (Finset.mem_univ j))
  · exact max_le (Finset.sup_le fun k _ => Finset.le_sup (f := p) (Finset.mem_univ _))
      (Finset.sup_le fun j _ => Finset.le_sup (f := p) (Finset.mem_univ _))

/-- The exponential of a score below `⊤` less a real is a nonnegative real. -/
theorem exp_sub_coe (x : EReal) (hx : x ≠ ⊤) (r : ℝ) : ∃ e : ℝ, Ideal.exp (x - r) = e ∧ 0 ≤ e := by
  induction x with
  | bot => exact ⟨0, by rw [EReal.bot_sub]; simp, le_refl _⟩
  | coe a => exact ⟨Real.exp (a - r), by rw [← EReal.coe_sub, Ideal.exp_coe], (Real.exp_pos _).le⟩
  | top => exact absurd rfl hx

/-- The two forms agree where no score is `⊤` and some meta score is real. -/
theorem late_eq_plain [NeZero n'] (p : Fin (n + n') → EReal) (v : Fin n → EReal) (vm : Fin n' → EReal)
    (hs : ∀ i, p i ≠ ⊤) (hm : ∀ j, ∃ r : ℝ, p (Fin.natAdd n j) = r) :
    late (fun k => p (Fin.castAdd n' k)) (fun j => p (Fin.natAdd n j)) v vm = plain p v vm := by
  have hM : ∃ M : ℝ, Finset.univ.sup p = M := by
    have h1 : Finset.univ.sup p ≠ ⊤ := by
      refine ne_of_lt ((Finset.sup_lt_iff (by exact bot_lt_top)).2 fun i _ => lt_top_iff_ne_top.2 (hs i))
    have h2 : Finset.univ.sup p ≠ ⊥ := by
      obtain ⟨r, hr⟩ := hm 0
      have h3 := Finset.le_sup (f := p) (Finset.mem_univ (Fin.natAdd n (0 : Fin n')))
      rw [hr] at h3
      exact ne_of_gt (lt_of_lt_of_le (EReal.bot_lt_coe r) h3)
    exact ⟨_, (EReal.coe_toReal h1 h2).symm⟩
  obtain ⟨M, hM⟩ := hM
  have hT := (sup_append p).symm.trans hM
  simp only [late, plain, hT, hM, max_eq_right (bot_le : (⊥ : EReal) ≤ (M : EReal)), zero_add, mul_one]
  choose e he he0 using fun i => exp_sub_coe (p i) (hs i) M
  have hpos : ∀ j, 0 < e (Fin.natAdd n j) := fun j => by
    obtain ⟨r, hr⟩ := hm j
    have h := he (Fin.natAdd n j)
    rw [hr, ← EReal.coe_sub, Ideal.exp_coe] at h
    rw [← EReal.coe_eq_coe_iff.1 h]; exact Real.exp_pos _
  simp only [he]
  rw [Fin.sum_univ_add, sum_coe, sum_coe, ← EReal.coe_add]
  set L : ℝ := (∑ k : Fin n, e (Fin.castAdd n' k)) + ∑ j : Fin n', e (Fin.natAdd n j) with hL
  have hL0 : 0 < L := add_pos_of_nonneg_of_pos (Finset.sum_nonneg fun k _ => he0 _)
    (Finset.sum_pos (fun j _ => hpos j) ⟨0, Finset.mem_univ _⟩)
  simp only [Ideal.div_coe hL0.ne']
  have hc : (0 : ℝ) ≤ 1 / L := by positivity
  rw [mul_comm, EReal.left_distrib_of_nonneg_of_ne_top (by exact_mod_cast hc) (EReal.coe_ne_top _), mul_sum _ hc, mul_sum _ hc]
  congr 1 <;> refine Finset.sum_congr rfl fun k _ => ?_ <;> rw [← mul_assoc, mul_comm ((1 / L : ℝ) : EReal)]

end Cert.Softmax

end
-- ==== Proof.BlockAt.lean ====
/- The block computations read at an index, over the extended reals: what the body stores in one lane is the call's form of
   the softmax (`Softmax.late`) over the lane's head, gated (`gatedPair_apply`); a lane of the mLSTM row is the normalised,
   gated sum (`mlstmRow_apply`). -/
module

public import proofs.«01_k».proof.Proof.Block
public import proofs.«01_k».proof.Proof.Softmax
public import Idealize.ShloMosaic.Lib.Pointwise

@[expose] public section

set_option maxRecDepth 16384
set_option maxHeartbeats 2000000

noncomputable section

namespace Cert.Block

open Cert.KernelIdeal Cert.KernelIdeal.Gen Idealize.ShloMosaic

/-- `z · 1 / (1 + exp(0 − z))`. -/
def silu (z : EReal) : EReal := z * Ideal.div 1 (1 + Ideal.exp (0 - z))

/-- `1 / (1 + exp(0 − o)) · (f + b)`. -/
def gated (o f b : EReal) : EReal := Ideal.div 1 (1 + Ideal.exp (0 - o)) * (f + b)

/-- One entry over the root mean square of its 128, times its gain. -/
def rms (y : EReal) (ys : Fin 128 → EReal) (g : EReal) : EReal :=
  y * Ideal.rsqrt (Ideal.div (∑ l, ys l * ys l) (Ideal.ofBits .f32 0x43000000#32) + Ideal.ofBits .f32 0x358637BD#32) * g

theorem firstHead_apply (w : Fin 64) (l : Fin 128) : firstHead (ix2 w l) = if l.val < 64 then 1#1 else 0#1 := by
  pointwise [firstHead]
  revert l; decide

theorem pairQueries_apply (q : Vec Ideal S64x128 .bf16) (r l : Fin 128) :
    pairQueries q (ix2 r l) = if l.val / 64 = r.val / 64 then q (ix2 ⟨r.val % 64, Nat.mod_lt _ (by norm_num)⟩ l) else (0 : EReal) := by
  pointwise [pairQueries]
  have hl := l.isLt
  have hr := r.isLt
  split
  · next h =>
    have e : (⟨r.val % 64, Nat.mod_lt _ (by norm_num)⟩ : Fin 64) = ⟨r.val, h⟩ := Fin.ext (Nat.mod_eq_of_lt h)
    rw [firstHead_apply, e]
    by_cases h2 : l.val < 64
    · rw [if_pos h2, if_pos (by omega)]; rfl
    · rw [if_neg h2, if_neg (by omega)]; rfl
  · next h =>
    have e : (⟨r.val % 64, Nat.mod_lt _ (by norm_num)⟩ : Fin 64) = ⟨r.val - 64, by omega⟩ := Fin.ext (by show r.val % 64 = r.val - 64; omega)
    have hn : ¬ r.val < 64 := h
    rw [firstHead_apply, e]
    by_cases h2 : l.val < 64
    · have c : ¬ (l.val / 64 = r.val / 64) := by clear h e; omega
      rw [if_pos h2]; exact (if_neg c).symm
    · have c : l.val / 64 = r.val / 64 := by clear h e; omega
      rw [if_neg h2]; exact (if_pos c).symm

theorem pairScores_apply (q : Vec Ideal S64x128 .bf16) (k : Vec Ideal S512x128 .bf16) (b : Vec Ideal S1x1x128x512 .f32) (r : Fin 128) (c : Fin 512) :
    pairScores q k b (ix2 r c) = (∑ l : Fin 128, pairQueries q (ix2 r l) * k (ix2 c l)) + b (ix4 0 0 r c) := by
  pointwise [pairScores]

theorem metaScores_apply (q : Vec Ideal S64x128 .bf16) (mk : Vec Ideal S16x128 .bf16) (r : Fin 128) (c : Fin 16) :
    metaScores q mk (ix2 r c) = ∑ l : Fin 128, pairQueries q (ix2 r l) * mk (ix2 c l) := by
  pointwise [metaScores]

theorem fold_max_bot {n : ℕ} (f : Fin n → EReal) : Finset.fold max (Ideal.ofBits FTy.f32 0xFF800000#32) f Finset.univ = Finset.univ.sup f := by
  rw [show Ideal.ofBits FTy.f32 0xFF800000#32 = (⊥ : EReal) by simp [Ideal.ofBits, Ideal.ieee]]
  rfl

theorem topScore_apply (s : FVec Ideal S128x512 .f32) (sm : FVec Ideal S128x16 .f32) (r : Fin 128) :
    topScore s sm (ix2 r 0) = Softmax.top (fun c : Fin 512 => s (ix2 r c)) (fun c : Fin 16 => sm (ix2 r c)) := by
  pointwise [topScore]
  rw [fold_max_bot, fold_max_bot]; rfl

theorem weighted_apply (e : FVec Ideal S128x512 .bf16) (em : FVec Ideal S128x16 .bf16) (v : Vec Ideal S512x128 .bf16) (mv : Vec Ideal S16x128 .bf16) (r : Fin 128) (l : Fin 128) :
    weighted e em v mv (ix2 r ⟨l.val, by omega⟩) = (∑ c : Fin 512, e (ix2 r c) * v (ix2 c l)) + ∑ c : Fin 16, em (ix2 r c) * mv (ix2 c l) := by
  pointwise [weighted]

theorem weighted_apply_sum (e : FVec Ideal S128x512 .bf16) (em : FVec Ideal S128x16 .bf16) (v : Vec Ideal S512x128 .bf16) (mv : Vec Ideal S16x128 .bf16) (r : Fin 128) (l : Fin 128) :
    weighted e em v mv (ix2 r ⟨128 + l.val, by omega⟩) = (∑ c : Fin 512, e (ix2 r c) * 1) + ∑ c : Fin 16, em (ix2 r c) * 1 := by
  pointwise [weighted]

theorem pairWeights_apply (s : FVec Ideal S128x512 .f32) (mx : FVec Ideal S128x1 .f32) (r : Fin 128) (c : Fin 512) :
    pairWeights s mx (ix2 r c) = Ideal.exp (s (ix2 r c) - mx (ix2 r 0)) := by
  pointwise [pairWeights]

theorem metaWeights_apply (s : FVec Ideal S128x16 .f32) (mx : FVec Ideal S128x1 .f32) (r : Fin 128) (c : Fin 16) :
    metaWeights s mx (ix2 r c) = Ideal.exp (s (ix2 r c) - mx (ix2 r 0)) := by
  pointwise [metaWeights]

theorem quotient_apply (o : FVec Ideal S128x256 .f32) (r l : Fin 128) :
    quotient o (ix2 r l) = Ideal.div (o (ix2 r ⟨l.val, by omega⟩)) (o (ix2 r ⟨128 + l.val, by omega⟩)) := by
  pointwise [quotient]

/-- The row of a pair's tables that holds lane `l` at token `w`. -/
def rowOf (w : Fin 64) (l : Fin 128) : Fin 128 := ⟨64 * (l.val / 64) + w.val, by omega⟩

theorem bothHeads_apply (on : FVec Ideal S128x128 .f32) (w : Fin 64) (l : Fin 128) : bothHeads on (ix2 w l) = on (ix2 (rowOf w l) l) := by
  pointwise [bothHeads]
  rw [firstHead_apply]
  have hl := l.isLt
  by_cases h2 : l.val < 64
  · rw [if_pos h2, show rowOf w l = ⟨w.val, by omega⟩ from Fin.ext (by show 64 * (l.val / 64) + w.val = w.val; omega)]; rfl
  · rw [if_neg h2, show rowOf w l = ⟨64 + w.val, by omega⟩ from Fin.ext (by show 64 * (l.val / 64) + w.val = 64 + w.val; omega)]; rfl

/-- Lane `d` of the head of lane `l`. -/
def lane (l : Fin 128) (d : Fin 64) : Fin 128 := ⟨64 * (l.val / 64) + d.val, by omega⟩

/-- A sum over 128 lanes that keeps one head's is the sum over that head's 64. -/
theorem sum_head (l : Fin 128) (f : Fin 128 → EReal) : (∑ i : Fin 128, if i.val / 64 = l.val / 64 then f i else 0) = ∑ d : Fin 64, f (lane l d) := by
  have hl := l.isLt
  rw [show (∑ i : Fin 128, if i.val / 64 = l.val / 64 then f i else (0 : EReal)) = ∑ i : Fin (64 + 64), if i.val / 64 = l.val / 64 then f i else 0 from rfl,
    Fin.sum_univ_add]
  have hx : ∀ d : Fin 64, (Fin.castAdd 64 d : Fin (64 + 64)).val / 64 = 0 := fun d => by have := d.isLt; simp only [Fin.val_castAdd]; omega
  have hy : ∀ d : Fin 64, (Fin.natAdd 64 d : Fin (64 + 64)).val / 64 = 1 := fun d => by have := d.isLt; simp only [Fin.val_natAdd]; omega
  simp only [hx, hy]
  by_cases h : l.val / 64 = 0
  · simp only [h, if_true, one_ne_zero, if_false, Finset.sum_const_zero, add_zero]
    exact Finset.sum_congr rfl fun d _ => congrArg f (Fin.ext (by simp [lane, h]))
  · have h1 : l.val / 64 = 1 := by omega
    simp only [h1, if_true, zero_ne_one, if_false, Finset.sum_const_zero, zero_add]
    exact Finset.sum_congr rfl fun d _ => congrArg f (Fin.ext (by simp [lane, h1, Nat.add_comm]))

theorem sum_pairQueries {n : ℕ} (q : Vec Ideal S64x128 .bf16) (w : Fin 64) (l : Fin 128) (k : Fin 128 → EReal) :
    ∑ i : Fin 128, pairQueries q (ix2 (rowOf w l) i) * k i = ∑ d : Fin 64, q (ix2 w (lane l d)) * k (lane l d) := by
  have hw := w.isLt
  have hl := l.isLt
  have h1 : (rowOf w l).val / 64 = l.val / 64 := by show (64 * (l.val / 64) + w.val) / 64 = _; omega
  have h2 : (⟨(rowOf w l).val % 64, Nat.mod_lt _ (by norm_num)⟩ : Fin 64) = w := Fin.ext (by show (64 * (l.val / 64) + w.val) % 64 = _; omega)
  rw [← sum_head l fun i => q (ix2 w i) * k i]
  refine Finset.sum_congr rfl fun i _ => ?_
  rw [pairQueries_apply, h1, h2]
  split
  · rfl
  · exact zero_mul _

/-- One lane of what the body stores for a pair of heads. -/
theorem gatedPair_apply (q : Vec Ideal S64x128 .bf16) (k : Vec Ideal S512x128 .bf16) (b : Vec Ideal S1x1x128x512 .f32) (mk : Vec Ideal S16x128 .bf16)
    (v : Vec Ideal S512x128 .bf16) (mv : Vec Ideal S16x128 .bf16) (z : Vec Ideal S64x128 .bf16) (w : Fin 64) (l : Fin 128) :
    gatedPair q k b mk v mv z (ix2 w l)
      = Softmax.late (fun c : Fin 512 => (∑ d : Fin 64, q (ix2 w (lane l d)) * k (ix2 c (lane l d))) + b (ix4 0 0 (rowOf w l) c))
          (fun c : Fin 16 => ∑ d : Fin 64, q (ix2 w (lane l d)) * mk (ix2 c (lane l d)))
          (fun c => v (ix2 c l)) (fun c => mv (ix2 c l)) * silu (z (ix2 w l)) := by
  pointwise [gatedPair, gate]
  refine congrArg₂ (· * ·) ?_ rfl
  simp only [pairOut, bothHeads_apply, quotient_apply, weighted_apply, weighted_apply_sum, pairWeights_apply, metaWeights_apply, topScore_apply]
  simp only [pairScores_apply, metaScores_apply, sum_pairQueries (n := 0)]
  rfl

theorem gatedSum_apply (hf hb o : Vec Ideal S64x512 .bf16) (i : S64x512.Idx) : gatedSum hf hb o i = gated (o i) (hf i) (hb i) := by
  pointwise [gatedSum, widen]; rfl

/-- Column `l` of the 128 that column `a` is normalised with. -/
def col (a : Fin 512) (l : Fin 128) : Fin 512 := ⟨128 * (a.val / 128) + l.val, by omega⟩

theorem normedHeads_apply (og : FVec Ideal S64x512 .f32) (g : Vec Ideal S1x512 .f32) (w : Fin 64) (a : Fin 512) :
    normedHeads og g (ix2 w a) = rms (og (ix2 w a)) (fun l => og (ix2 w (col a l))) (g (ix2 0 a)) := by
  have ha := a.isLt
  pointwise [normedHeads, normed]
  split
  · next h =>
    have e : ∀ l : Fin 128, col a l = ⟨l.val, by omega⟩ := fun l => Fin.ext (by show 128 * (a.val / 128) + l.val = l.val; omega)
    simp only [rms, e]
  · next h =>
    split
    · next h1 =>
      have e : ∀ l : Fin 128, col a l = ⟨128 + l.val, by omega⟩ := fun l => Fin.ext (by show 128 * (a.val / 128) + l.val = 128 + l.val; omega)
      simp only [rms, e, show 128 + (a.val - 128) = a.val by omega, Fin.eta]
    · next h1 =>
      split
      · next h2 =>
        have e : ∀ l : Fin 128, col a l = ⟨256 + l.val, by omega⟩ := fun l => Fin.ext (by show 128 * (a.val / 128) + l.val = 256 + l.val; omega)
        simp only [rms, e, show 256 + (a.val - 128 - 128) = a.val by omega, Fin.eta]
      · next h2 =>
        have e : ∀ l : Fin 128, col a l = ⟨384 + l.val, by omega⟩ := fun l => Fin.ext (by show 128 * (a.val / 128) + l.val = 384 + l.val; omega)
        simp only [rms, e, show 384 + (a.val - 128 - 128 - 128) = a.val by omega, Fin.eta]

/-- One lane of the mLSTM row. -/
theorem mlstmRow_apply (hf hb o : Vec Ideal S64x512 .bf16) (g : Vec Ideal S1x512 .f32) (z : Vec Ideal S64x512 .bf16) (w : Fin 64) (a : Fin 512) :
    mlstmRow hf hb o g z (ix2 w a)
      = rms (gated (o (ix2 w a)) (hf (ix2 w a)) (hb (ix2 w a)))
          (fun l => gated (o (ix2 w (col a l))) (hf (ix2 w (col a l))) (hb (ix2 w (col a l)))) (g (ix2 0 a)) * silu (z (ix2 w a)) := by
  pointwise [mlstmRow, gate, widen]
  simp only [normedHeads_apply, gatedSum_apply]
  rfl

theorem projected_apply (x : Vec Ideal S256x1024 .f32) (mix : Vec Ideal S256x1024 .bf16) (w : Vec Ideal S1024x1024 .bf16) (r : Fin 256) (a : Fin 1024) :
    projected x mix w (ix2 r a) = x (ix2 r a) + ∑ i : Fin 1024, mix (ix2 r i) * w (ix2 i a) := by
  pointwise [projected]

end Cert.Block

end
-- ==== Proof.Mix.lean ====
/- What one grid point's scratch rows hold, as a function of the blocks the point loads (`mix`), and that each of the body's
   stores is a rectangle of it (`attn_piece`, `mlstm_piece`); what the point's output block holds (`out`, `out_piece`). -/
module

public import proofs.«01_k».proof.Proof.BlockAt

@[expose] public section

set_option maxRecDepth 16384
set_option maxHeartbeats 2000000

noncomputable section

namespace Cert.Block

open Cert.KernelIdeal Cert.KernelIdeal.Gen Idealize.ShloMosaic

/-- The blocks one grid point loads. -/
structure Blocks (F : FTy → Type) [FloatOps F] where
  q : Vec F S512x512 .bf16
  za : Vec F S512x512 .bf16
  k : Vec F S2048x512 .bf16
  v : Vec F S2048x512 .bf16
  km : Vec F S16x512 .bf16
  vm : Vec F S16x512 .bf16
  bias : Vec F S4x8x128x512 .f32
  hf : Vec F S512x512 .bf16
  hb : Vec F S512x512 .bf16
  o : Vec F S512x512 .bf16
  zm : Vec F S512x512 .bf16
  x : Vec F S512x1024 .f32
  g : Vec F S1x512 .f32
  w : Vec F S1024x1024 .bf16

/-- The first key row of the window of grid row `R`. -/
def firstRow (R : ℕ) : ℕ := min (R - 4) 24

/-- Token `c` of the window of grid row `R`. -/
def keyTok (R : Fin 32) (c : Fin 512) : Fin 2048 := ⟨64 * firstRow R.val + c.val, by unfold firstRow; omega⟩

/-- Where the bias table of grid row `R` starts. -/
def shift (R : Fin 32) : Fin 8 := ⟨firstRow R.val + 7 - R.val, by unfold firstRow; omega⟩

/-- Lane `d` of the head of column `a`. -/
def lane512 (a : Fin 512) (d : Fin 64) : Fin 512 := ⟨64 * (a.val / 64) + d.val, by omega⟩

/-- Row of a pair's bias table for column `a` at token row `r`. -/
def biasRow (r a : Fin 512) : Fin 128 := ⟨64 * (a.val / 64 % 2) + r.val % 64, by omega⟩

/-- The gated attention output at row `r` (of grid row `R`) and column `a`. -/
def attn (B : Blocks Ideal) (R : Fin 32) (r a : Fin 512) : EReal :=
  Softmax.late
    (fun c : Fin 512 => (∑ d : Fin 64, B.q (ix2 r (lane512 a d)) * B.k (ix2 (keyTok R c) (lane512 a d)))
      + B.bias (ix4 ⟨a.val / 128, by omega⟩ (shift R) (biasRow r a) c))
    (fun c : Fin 16 => ∑ d : Fin 64, B.q (ix2 r (lane512 a d)) * B.km (ix2 c (lane512 a d)))
    (fun c => B.v (ix2 (keyTok R c) a)) (fun c => B.vm (ix2 c a)) * silu (B.za (ix2 r a))

/-- The mLSTM branch at row `r` and column `a`. -/
def mlstm (B : Blocks Ideal) (r a : Fin 512) : EReal :=
  rms (gated (B.o (ix2 r a)) (B.hf (ix2 r a)) (B.hb (ix2 r a)))
    (fun l => gated (B.o (ix2 r (col a l))) (B.hf (ix2 r (col a l))) (B.hb (ix2 r (col a l)))) (B.g (ix2 0 a)) * silu (B.zm (ix2 r a))

/-- The grid row of token row `r` at step `jb`. -/
def gridRow (jb : Fin 4) (r : Fin 512) : Fin 32 := ⟨8 * jb.val + r.val / 64, by omega⟩

/-- Column `i` of the joined row `r`: the mLSTM branch, then the attention. -/
def mixAt (B : Blocks Ideal) (jb : Fin 4) (r : Fin 512) (i : Fin 1024) : EReal :=
  if h : i.val < 512 then mlstm B r ⟨i.val, h⟩ else attn B (gridRow jb r) r ⟨i.val - 512, by omega⟩

/-- `mixAt` as an array. -/
def mix (B : Blocks Ideal) (jb : Fin 4) : S512x1024.Idx → EReal := fun y => mixAt B jb (y 0) (y 1)

/-- The output block: the stream plus the projection. -/
def out (B : Blocks Ideal) (jb : Fin 4) : S512x1024.Idx → EReal :=
  fun y => B.x (ix2 (y 0) (y 1)) + ∑ i : Fin 1024, mixAt B jb (y 0) i * B.w (ix2 i (y 1))

/-- Where a rectangle of unit strides puts a coordinate. -/
theorem unit_emb {s : Shape} (off size : Fin s.rank → ℕ) (inb : ∀ a, off a + size a ≤ s.size a) (j : (Rect.unit off size inb).shape.Idx) (a : Fin s.rank) :
    ((Rect.unit off size inb).emb j a).val = off a + (j a).val := by
  show off a + 1 * (j a).val = _; rw [Nat.one_mul]

theorem mix_attn (B : Blocks Ideal) (jb : Fin 4) (y : S512x1024.Idx) (r a : Fin 512) (h0 : (y 0).val = r.val) (h1 : (y 1).val = 512 + a.val) :
    mix B jb y = attn B (gridRow jb r) r a := by
  have e0 : (y 0 : Fin 512) = r := Fin.ext h0
  have e1 : (y 1 : Fin 1024) = ⟨512 + a.val, by omega⟩ := Fin.ext h1
  refine (congrArg₂ (mixAt B jb) e0 e1).trans ((dif_neg (show ¬ (512 + a.val < 512) by omega)).trans ?_)
  exact congrArg _ (Fin.ext (by show 512 + a.val - 512 = a.val; omega))

theorem mix_mlstm (B : Blocks Ideal) (jb : Fin 4) (y : S512x1024.Idx) (r a : Fin 512) (h0 : (y 0).val = r.val) (h1 : (y 1).val = a.val) :
    mix B jb y = mlstm B r a := by
  have e0 : (y 0 : Fin 512) = r := Fin.ext h0
  have e1 : (y 1 : Fin 1024) = ⟨a.val, by omega⟩ := Fin.ext h1
  exact (congrArg₂ (mixAt B jb) e0 e1).trans (dif_pos a.isLt)

/-- The pair's store, at any spelling of its offsets. -/
theorem attn_piece (B : Blocks Ideal) (jb : Fin 4) (rr : Fin 8) (p : Fin 4) (oq om os ok : Fin 2 → ℕ) (ob : Fin 4 → ℕ)
    (hoq : oq = ![64 * rr.val, 128 * p.val]) (hom : om = ![0, 128 * p.val]) (hos : os = ![64 * rr.val, 512 + 128 * p.val])
    (hok : ok = ![64 * firstRow (8 * jb.val + rr.val), 128 * p.val])
    (hob : ob = ![p.val, firstRow (8 * jb.val + rr.val) + 7 - (8 * jb.val + rr.val), 0, 0])
    (iq : ∀ a, oq a + S64x128.size a ≤ S512x512.size a) (im : ∀ a, om a + S16x128.size a ≤ S16x512.size a)
    (is : ∀ a, os a + S64x128.size a ≤ S512x1024.size a) (ik : ∀ a, ok a + S512x128.size a ≤ S2048x512.size a)
    (ib : ∀ a, ob a + S1x1x128x512.size a ≤ S4x8x128x512.size a) (x : S64x128.Idx) :
    gatedPair (View.ld (Val := Elt Ideal) B.q (Rect.unit (s := S512x512) oq S64x128.size iq)) (View.ld (Val := Elt Ideal) B.k (Rect.unit (s := S2048x512) ok S512x128.size ik))
        (View.ld (Val := Elt Ideal) B.bias (Rect.unit (s := S4x8x128x512) ob S1x1x128x512.size ib)) (View.ld (Val := Elt Ideal) B.km (Rect.unit (s := S16x512) om S16x128.size im))
        (View.ld (Val := Elt Ideal) B.v (Rect.unit (s := S2048x512) ok S512x128.size ik)) (View.ld (Val := Elt Ideal) B.vm (Rect.unit (s := S16x512) om S16x128.size im))
        (View.ld (Val := Elt Ideal) B.za (Rect.unit (s := S512x512) oq S64x128.size iq)) x
      = mix B jb ((Rect.unit (s := S512x1024) os S64x128.size is).emb x) := by
  subst hoq hom hos hok hob
  idx_vars x
  rw [gatedPair_apply]
  pointwise []
  have h0 := x0.isLt
  have h1 := x1.isLt
  have hp := p.isLt
  have hrr := rr.isLt
  rw [mix_attn B jb _ ⟨64 * rr.val + x0.val, by omega⟩ ⟨128 * p.val + x1.val, by omega⟩ (unit_emb _ _ _ _ _)
    ((unit_emb _ _ _ _ _).trans (by show 512 + 128 * p.val + x1.val = 512 + (128 * p.val + x1.val); omega))]
  have eR : gridRow jb ⟨64 * rr.val + x0.val, by omega⟩ = ⟨8 * jb.val + rr.val, by omega⟩ := Fin.ext (by
    show 8 * jb.val + (64 * rr.val + x0.val) / 64 = 8 * jb.val + rr.val; omega)
  have eL : ∀ d, lane512 ⟨128 * p.val + x1.val, by omega⟩ d = ⟨128 * p.val + (lane x1 d).val, by have := (lane x1 d).isLt; omega⟩ := fun d => Fin.ext (by
    show 64 * ((128 * p.val + x1.val) / 64) + d.val = 128 * p.val + (64 * (x1.val / 64) + d.val); omega)
  have eB : biasRow ⟨64 * rr.val + x0.val, by omega⟩ ⟨128 * p.val + x1.val, by omega⟩ = rowOf x0 x1 := Fin.ext (by
    show 64 * ((128 * p.val + x1.val) / 64 % 2) + (64 * rr.val + x0.val) % 64 = 64 * (x1.val / 64) + x0.val; omega)
  have eP : (⟨(128 * p.val + x1.val) / 128, by omega⟩ : Fin 4) = p := Fin.ext (by show (128 * p.val + x1.val) / 128 = p.val; omega)
  simp only [attn, eR, eL, eB, eP]
  rfl

/-- The mLSTM row's store. -/
theorem mlstm_piece (B : Blocks Ideal) (jb : Fin 4) (rr : Fin 8) (oq om os : Fin 2 → ℕ)
    (hoq : oq = ![64 * rr.val, 0]) (hom : om = ![0, 0]) (hos : os = ![64 * rr.val, 0])
    (iq : ∀ a, oq a + S64x512.size a ≤ S512x512.size a) (im : ∀ a, om a + S1x512.size a ≤ S1x512.size a)
    (is : ∀ a, os a + S64x512.size a ≤ S512x1024.size a) (x : S64x512.Idx) :
    mlstmRow (View.ld (Val := Elt Ideal) B.hf (Rect.unit (s := S512x512) oq S64x512.size iq)) (View.ld (Val := Elt Ideal) B.hb (Rect.unit (s := S512x512) oq S64x512.size iq))
        (View.ld (Val := Elt Ideal) B.o (Rect.unit (s := S512x512) oq S64x512.size iq)) (View.ld (Val := Elt Ideal) B.g (Rect.unit (s := S1x512) om S1x512.size im))
        (View.ld (Val := Elt Ideal) B.zm (Rect.unit (s := S512x512) oq S64x512.size iq)) x
      = mix B jb ((Rect.unit (s := S512x1024) os S64x512.size is).emb x) := by
  subst hoq hom hos
  idx_vars x
  rw [mlstmRow_apply]
  pointwise []
  have h0 := x0.isLt
  have hrr := rr.isLt
  rw [mix_mlstm B jb _ ⟨64 * rr.val + x0.val, by omega⟩ x1 (unit_emb _ _ _ _ _) ((unit_emb _ _ _ _ _).trans (by show 0 + x1.val = x1.val; omega))]
  rfl

/-- A half block's store, from the rows read back from the scratch. -/
theorem out_piece (B : Blocks Ideal) (jb : Fin 4) (half : Fin 2) (mx : Vec Ideal S256x1024 .bf16) (ox ow : Fin 2 → ℕ)
    (hox : ox = ![256 * half.val, 0]) (how : ow = ![0, 0])
    (hmx : ∀ (r : Fin 256) (i : Fin 1024), mx (ix2 r i) = mixAt B jb ⟨256 * half.val + r.val, by omega⟩ i)
    (ix : ∀ a, ox a + S256x1024.size a ≤ S512x1024.size a) (iw : ∀ a, ow a + S1024x1024.size a ≤ S1024x1024.size a) (x : S256x1024.Idx) :
    projected (View.ld (Val := Elt Ideal) B.x (Rect.unit (s := S512x1024) ox S256x1024.size ix)) mx
        (View.ld (Val := Elt Ideal) B.w (Rect.unit (s := S1024x1024) ow S1024x1024.size iw)) x
      = out B jb ((Rect.unit (s := S512x1024) ox S256x1024.size ix).emb x) := by
  subst hox how
  idx_vars x
  rw [projected_apply]
  pointwise []
  simp only [hmx]
  have h0 := x0.isLt
  have hh := half.isLt
  have hb : 256 * half.val + x0.val < 512 := by omega
  have e0 : ((Rect.unit (s := S512x1024) ![256 * half.val, 0] S256x1024.size ix).emb (ix2 x0 x1) 0 : Fin 512) = (⟨256 * half.val + x0.val, hb⟩ : Fin 512) :=
    Fin.ext (unit_emb _ _ _ _ _)
  have e1 : ((Rect.unit (s := S512x1024) ![256 * half.val, 0] S256x1024.size ix).emb (ix2 x0 x1) 1 : Fin 1024) = x1 :=
    Fin.ext ((unit_emb _ _ _ _ _).trans (by show 0 + x1.val = x1.val; omega))
  refine Eq.trans ?_ (congrArg₂ (fun (r : Fin 512) (a : Fin 1024) => B.x (ix2 r a) + ∑ i : Fin 1024, mixAt B jb r i * B.w (ix2 i a)) e0 e1).symm
  rfl

end Cert.Block

end
-- ==== Proof.Offsets.lean ====
/- Where the body's loads start: the key and value rows of a grid row's window, and its table of biases, as numbers. -/
module

public import proofs.«01_k».proof.Proof.Mix

@[expose] public section

namespace Cert.Block

open Cert.KernelIdeal Cert.KernelIdeal.Gen Idealize.ShloMosaic

/-- The word of the window's first row, for every step and row of the step. -/
theorem rowWord : ∀ (j : Fin 4) (rr : Fin 8),
    (Scalar.indexCast (Scalar.muli (Scalar.minsi 24#32 (Scalar.maxsi 0#32 (Scalar.subi (Scalar.addi (Scalar.muli (BitVec.ofNat 32 j.val) 8#32) (BitVec.ofNat 32 rr.val)) 4#32))) 64#32)).toNat
      = 64 * firstRow (8 * j.val + rr.val) := by decide +kernel

/-- The word of the bias table's number. -/
theorem shiftWord : ∀ (j : Fin 4) (rr : Fin 8),
    (Scalar.indexCast (Scalar.addi (Scalar.subi (Scalar.minsi 24#32 (Scalar.maxsi 0#32 (Scalar.subi (Scalar.addi (Scalar.muli (BitVec.ofNat 32 j.val) 8#32) (BitVec.ofNat 32 rr.val)) 4#32)))
        (Scalar.addi (Scalar.muli (BitVec.ofNat 32 j.val) 8#32) (BitVec.ofNat 32 rr.val))) 7#32)).toNat
      = firstRow (8 * j.val + rr.val) + 7 - (8 * j.val + rr.val) := by decide +kernel

variable (i : grid0.Coords) (rr : Fin 8)

theorem off1 : k0_off1 i (BitVec.ofNat 32 rr.val) = ![64 * firstRow (8 * (i 1).val + rr.val), 0] := congrArg (fun n => ![n, 0]) (rowWord (i 1) rr)
theorem off3 : k0_off3 i (BitVec.ofNat 32 rr.val) = ![64 * firstRow (8 * (i 1).val + rr.val), 128] := congrArg (fun n => ![n, 128]) (rowWord (i 1) rr)
theorem off5 : k0_off5 i (BitVec.ofNat 32 rr.val) = ![64 * firstRow (8 * (i 1).val + rr.val), 256] := congrArg (fun n => ![n, 256]) (rowWord (i 1) rr)
theorem off7 : k0_off7 i (BitVec.ofNat 32 rr.val) = ![64 * firstRow (8 * (i 1).val + rr.val), 384] := congrArg (fun n => ![n, 384]) (rowWord (i 1) rr)
theorem off2 : k0_off2 i (BitVec.ofNat 32 rr.val) = ![0, firstRow (8 * (i 1).val + rr.val) + 7 - (8 * (i 1).val + rr.val), 0, 0] := congrArg (fun n => ![0, n, 0, 0]) (shiftWord (i 1) rr)
theorem off4 : k0_off4 i (BitVec.ofNat 32 rr.val) = ![1, firstRow (8 * (i 1).val + rr.val) + 7 - (8 * (i 1).val + rr.val), 0, 0] := congrArg (fun n => ![1, n, 0, 0]) (shiftWord (i 1) rr)
theorem off6 : k0_off6 i (BitVec.ofNat 32 rr.val) = ![2, firstRow (8 * (i 1).val + rr.val) + 7 - (8 * (i 1).val + rr.val), 0, 0] := congrArg (fun n => ![2, n, 0, 0]) (shiftWord (i 1) rr)
theorem off8 : k0_off8 i (BitVec.ofNat 32 rr.val) = ![3, firstRow (8 * (i 1).val + rr.val) + 7 - (8 * (i 1).val + rr.val), 0, 0] := congrArg (fun n => ![3, n, 0, 0]) (shiftWord (i 1) rr)

end Cert.Block
-- ==== Proof.Stores.lean ====
/- The body's stores as values: one row of the grid makes one store of the mLSTM columns and one for each pair of heads
   (`rowStores`), the scratch holds four rows' stores and then eight's (`storesTo`), and the output block is stored in two
   halves (`stores_eq`). -/
module

public import proofs.«01_k».proof.Proof.Mix
public import proofs.«01_k».proof.Proof.Gen.KernelIdeal.Value

@[expose] public section

set_option maxRecDepth 65536
set_option maxHeartbeats 8000000

noncomputable section

namespace Cert.Block

open Cert.KernelIdeal Cert.KernelIdeal.Gen Idealize.ShloMosaic Idealize.ShloMosaic.TcCoe Idealize.ShloMosaic.Tactic

variable {F : FTy → Type} [FloatOps F]

/-- A store of one pair's output. -/
def attnStore (B : Blocks F) (i : grid0.Coords) (oq om os ok : Fin 2 → ℕ) (ob : Fin 4 → ℕ)
    (iq : ∀ a, oq a + S64x128.size a ≤ S512x512.size a) (im : ∀ a, om a + S16x128.size a ≤ S16x512.size a)
    (is : ∀ a, os a + S64x128.size a ≤ S512x1024.size a) (ik : ∀ a, ok a + S512x128.size a ≤ S2048x512.size a)
    (ib : ∀ a, ob a + S1x1x128x512.size a ≤ S4x8x128x512.size a) : View.Piece (Elt F) S512x1024 .bf16 :=
  ⟨Rect.unit (s := S512x1024) os S64x128.size is,
    gatedPair (View.ld (Val := Elt F) B.q (Rect.unit (s := S512x512) oq S64x128.size iq)) (View.ld (Val := Elt F) B.k (Rect.unit (s := S2048x512) ok S512x128.size ik))
        (View.ld (Val := Elt F) B.bias (Rect.unit (s := S4x8x128x512) ob S1x1x128x512.size ib)) (View.ld (Val := Elt F) B.km (Rect.unit (s := S16x512) om S16x128.size im))
        (View.ld (Val := Elt F) B.v (Rect.unit (s := S2048x512) ok S512x128.size ik)) (View.ld (Val := Elt F) B.vm (Rect.unit (s := S16x512) om S16x128.size im))
        (View.ld (Val := Elt F) B.za (Rect.unit (s := S512x512) oq S64x128.size iq))⟩

/-- A store of one mLSTM row. -/
def mlstmStore (B : Blocks F) (oq om os : Fin 2 → ℕ)
    (iq : ∀ a, oq a + S64x512.size a ≤ S512x512.size a) (im : ∀ a, om a + S1x512.size a ≤ S1x512.size a)
    (is : ∀ a, os a + S64x512.size a ≤ S512x1024.size a) : View.Piece (Elt F) S512x1024 .bf16 :=
  ⟨Rect.unit (s := S512x1024) os S64x512.size is,
    mlstmRow (View.ld (Val := Elt F) B.hf (Rect.unit (s := S512x512) oq S64x512.size iq)) (View.ld (Val := Elt F) B.hb (Rect.unit (s := S512x512) oq S64x512.size iq))
        (View.ld (Val := Elt F) B.o (Rect.unit (s := S512x512) oq S64x512.size iq)) (View.ld (Val := Elt F) B.g (Rect.unit (s := S1x512) om S1x512.size im))
        (View.ld (Val := Elt F) B.zm (Rect.unit (s := S512x512) oq S64x512.size iq))⟩

theorem inb_rows {n : ℕ} (rr : Fin 8) (c w m : ℕ) (h : c + w ≤ m) (hn : n = 512) : ∀ a, (![64 * rr.val, c] : Fin 2 → ℕ) a + (![64, w] : Fin 2 → ℕ) a ≤ (![n, m] : Fin 2 → ℕ) a := by
  intro a
  have := rr.isLt
  match a with
  | ⟨0, _⟩ => show 64 * rr.val + 64 ≤ n; omega
  | ⟨1, _⟩ => exact h

theorem inb_meta (c : ℕ) (h : c + 128 ≤ 512) : ∀ a, (![0, c] : Fin 2 → ℕ) a + S16x128.size a ≤ S16x512.size a := by
  intro a
  match a with
  | ⟨0, _⟩ => exact Nat.le_refl 16
  | ⟨1, _⟩ => exact h

/-- The stores of one row of a step, last first. -/
def rowStores (B : Blocks F) (i : grid0.Coords) (rr : Fin 8) : List (View.Piece (Elt F) S512x1024 .bf16) :=
  [mlstmStore B ![64 * rr.val, 0] ![0, 0] ![64 * rr.val, 0] (inb_rows rr 0 512 512 (by norm_num) rfl) (by decide) (inb_rows rr 0 512 1024 (by norm_num) rfl),
    attnStore B i ![64 * rr.val, 384] ![0, 384] ![64 * rr.val, 896] (k0_off7 i (BitVec.ofNat 32 rr.val)) (k0_off8 i (BitVec.ofNat 32 rr.val))
      (inb_rows rr 384 128 512 (by norm_num) rfl) (inb_meta 384 (by norm_num)) (inb_rows rr 896 128 1024 (by norm_num) rfl) (k0_off7_inb i rr) (k0_off8_inb i rr),
    attnStore B i ![64 * rr.val, 256] ![0, 256] ![64 * rr.val, 768] (k0_off5 i (BitVec.ofNat 32 rr.val)) (k0_off6 i (BitVec.ofNat 32 rr.val))
      (inb_rows rr 256 128 512 (by norm_num) rfl) (inb_meta 256 (by norm_num)) (inb_rows rr 768 128 1024 (by norm_num) rfl) (k0_off5_inb i rr) (k0_off6_inb i rr),
    attnStore B i ![64 * rr.val, 128] ![0, 128] ![64 * rr.val, 640] (k0_off3 i (BitVec.ofNat 32 rr.val)) (k0_off4 i (BitVec.ofNat 32 rr.val))
      (inb_rows rr 128 128 512 (by norm_num) rfl) (inb_meta 128 (by norm_num)) (inb_rows rr 640 128 1024 (by norm_num) rfl) (k0_off3_inb i rr) (k0_off4_inb i rr),
    attnStore B i ![64 * rr.val, 0] ![0, 0] ![64 * rr.val, 512] (k0_off1 i (BitVec.ofNat 32 rr.val)) (k0_off2 i (BitVec.ofNat 32 rr.val))
      (inb_rows rr 0 128 512 (by norm_num) rfl) (inb_meta 0 (by norm_num)) (inb_rows rr 512 128 1024 (by norm_num) rfl) (k0_off1_inb i rr) (k0_off2_inb i rr)]

/-- The stores of the step's first `n` rows, last first. -/
def storesTo (B : Blocks F) (i : grid0.Coords) : (n : ℕ) → n ≤ 8 → List (View.Piece (Elt F) S512x1024 .bf16)
  | 0, _ => []
  | n + 1, h => rowStores B i ⟨n, h⟩ ++ storesTo B i n (Nat.le_of_succ_le h)

/-- The store of one half of the output block, from a scratch that holds the stores `L`. -/
def halfStore (B : Blocks F) (s : View sig .tc .vmem S512x1024 .bf16) (L : List (View.Piece (Elt F) S512x1024 .bf16)) (off : Fin 2 → ℕ)
    (h : ∀ a, off a + S256x1024.size a ≤ S512x1024.size a) : View.Piece (Elt F) S512x1024 .f32 :=
  ⟨Rect.unit (s := S512x1024) off S256x1024.size h,
    projected (View.ld (Val := Elt F) B.x (Rect.unit (s := S512x1024) off S256x1024.size h))
      (s.readCov L (Rect.unit (s := S512x1024) off S256x1024.size h).toLoadRect)
      (View.ld (Val := Elt F) B.w (Rect.unit (s := S1024x1024) ![0, 0] S1024x1024.size inb_S1024x1024_S1024x1024_0_0))⟩

theorem stores_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S4x8x128x512 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x1024 .f32) (harg13 : arg13.IsWhole) (arg14 : Memref sig .tc .vmem S1x512 .f32) (harg14 : arg14.IsWhole) (arg15 : Memref sig .tc .vmem S1024x1024 .bf16) (harg15 : arg15.IsWhole) (arg16 : Memref sig .tc .vmem S512x1024 .f32) (harg16 : arg16.IsWhole) (arg17 : Memref sig .tc .vmem S512x1024 .bf16) (harg17 : arg17.IsWhole)
    (x0 : Vec F S512x512 .bf16) (x1 : Vec F S512x512 .bf16) (x2 : Vec F S2048x512 .bf16) (x3 : Vec F S2048x512 .bf16) (x4 : Vec F S16x512 .bf16) (x5 : Vec F S16x512 .bf16) (x6 : Vec F S4x8x128x512 .f32) (x7 : Vec F S512x512 .bf16) (x8 : Vec F S512x512 .bf16) (x9 : Vec F S512x512 .bf16) (x10 : Vec F S512x512 .bf16) (x11 : Vec F S512x1024 .f32) (x12 : Vec F S1x512 .f32) (x13 : Vec F S1024x1024 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13).1
      = [halfStore ⟨x0, x1, x2, x3, x4, x5, x6, x7, x8, x9, x10, x11, x12, x13⟩ arg17.view (storesTo ⟨x0, x1, x2, x3, x4, x5, x6, x7, x8, x9, x10, x11, x12, x13⟩ i 8 (by norm_num)) ![256, 0] inb_S512x1024_S256x1024_256_0,
        halfStore ⟨x0, x1, x2, x3, x4, x5, x6, x7, x8, x9, x10, x11, x12, x13⟩ arg17.view (storesTo ⟨x0, x1, x2, x3, x4, x5, x6, x7, x8, x9, x10, x11, x12, x13⟩ i 4 (by norm_num)) ![0, 0] inb_S512x1024_S256x1024_0_0] := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

end Cert.Block

end
-- ==== Proof.Pieces.lean ====
/- What a grid point leaves in its output block: the body's stores are rectangles of `mix` in the scratch and of `out` in the
   output block, so the block holds `out` of the blocks the point loads (`outsAt_eq`). -/
module

public import proofs.«01_k».proof.Proof.Offsets
public import proofs.«01_k».proof.Proof.Stores
public import proofs.«01_k».proof.Proof.Gen.KernelIdeal.Value
public import Idealize.ShloMosaic.Lib.Pipeline.ReadBack

@[expose] public section

set_option maxRecDepth 65536
set_option maxHeartbeats 8000000

noncomputable section

namespace Cert.Block

open Cert.KernelIdeal Cert.KernelIdeal.Gen Idealize.ShloMosaic Idealize.ShloMosaic.TcCoe Idealize.ShloMosaic.Tactic
open Idealize.ShloMosaic.Pipeline (Dat Cfg Window)

/-- They are rectangles of `mix`. -/
theorem rowStores_pieces (B : Blocks Ideal) (i : grid0.Coords) (rr : Fin 8) (L : List (View.Piece (Elt Ideal) S512x1024 .bf16)) (hL : View.PiecesOf (mix B (i 1)) L) :
    View.PiecesOf (mix B (i 1)) (rowStores B i rr ++ L) :=
  ⟨fun x => mlstm_piece B (i 1) rr _ _ _ rfl rfl rfl _ _ (inb_rows rr 0 512 1024 (by norm_num) rfl) x,
    fun x => attn_piece B (i 1) rr 3 _ _ _ _ _ rfl rfl rfl (off7 i rr) (off8 i rr) _ _ (inb_rows rr 896 128 1024 (by norm_num) rfl) _ _ x,
    fun x => attn_piece B (i 1) rr 2 _ _ _ _ _ rfl rfl rfl (off5 i rr) (off6 i rr) _ _ (inb_rows rr 768 128 1024 (by norm_num) rfl) _ _ x,
    fun x => attn_piece B (i 1) rr 1 _ _ _ _ _ rfl rfl rfl (off3 i rr) (off4 i rr) _ _ (inb_rows rr 640 128 1024 (by norm_num) rfl) _ _ x,
    fun x => attn_piece B (i 1) rr 0 _ _ _ _ _ rfl rfl rfl (off1 i rr) (off2 i rr) _ _ (inb_rows rr 512 128 1024 (by norm_num) rfl) _ _ x, hL⟩

theorem storesTo_pieces (B : Blocks Ideal) (i : grid0.Coords) : ∀ (n : ℕ) (h : n ≤ 8), View.PiecesOf (mix B (i 1)) (storesTo B i n h)
  | 0, _ => trivial
  | n + 1, h => rowStores_pieces B i ⟨n, h⟩ _ (storesTo_pieces B i n (Nat.le_of_succ_le h))

/-- The stores of a row cover the row's 64 lines of the scratch. -/
theorem rowStores_cover (B : Blocks Ideal) (i : grid0.Coords) (rr : Fin 8) (y : S512x1024.Idx) (hy : (y 0).val / 64 = rr.val) :
    ∃ pc ∈ rowStores B i rr, y ∈ pc.1.set := by
  have h0 : (y 0).val < 512 := (y 0).isLt
  have h1 : (y 1).val < 1024 := (y 1).isLt
  unfold rowStores mlstmStore attnStore
  have key : (y 1).val < 512 ∨ (896 ≤ (y 1).val) ∨ (768 ≤ (y 1).val ∧ (y 1).val < 896) ∨ (640 ≤ (y 1).val ∧ (y 1).val < 768) ∨ (512 ≤ (y 1).val ∧ (y 1).val < 640) := by omega
  have mem : ∀ (c w : ℕ) (h : ∀ a, (![64 * rr.val, c] : Fin 2 → ℕ) a + (![64, w] : Fin 2 → ℕ) a ≤ S512x1024.size a), c ≤ (y 1).val → (y 1).val < c + w →
      y ∈ (Rect.unit (s := S512x1024) ![64 * rr.val, c] ![64, w] h).set := by
    intro c w h ha hb
    rw [Rect.mem_set_unit]
    intro a
    match a with
    | ⟨0, _⟩ => exact ⟨by show 64 * rr.val ≤ (y 0).val; omega, by show (y 0).val < 64 * rr.val + 64; omega⟩
    | ⟨1, _⟩ => exact ⟨ha, hb⟩
  rcases key with h | h | ⟨h, h'⟩ | ⟨h, h'⟩ | ⟨h, h'⟩
  · exact ⟨_, List.mem_cons_self, mem 0 512 (inb_rows rr 0 512 1024 (by norm_num) rfl) (Nat.zero_le _) (by omega)⟩
  · exact ⟨_, List.mem_cons_of_mem _ List.mem_cons_self, mem 896 128 (inb_rows rr 896 128 1024 (by norm_num) rfl) h (by omega)⟩
  · exact ⟨_, List.mem_cons_of_mem _ (List.mem_cons_of_mem _ List.mem_cons_self), mem 768 128 (inb_rows rr 768 128 1024 (by norm_num) rfl) h (by omega)⟩
  · exact ⟨_, List.mem_cons_of_mem _ (List.mem_cons_of_mem _ (List.mem_cons_of_mem _ List.mem_cons_self)), mem 640 128 (inb_rows rr 640 128 1024 (by norm_num) rfl) h (by omega)⟩
  · exact ⟨_, List.mem_cons_of_mem _ (List.mem_cons_of_mem _ (List.mem_cons_of_mem _ (List.mem_cons_of_mem _ List.mem_cons_self))), mem 512 128 (inb_rows rr 512 128 1024 (by norm_num) rfl) h (by omega)⟩

theorem storesTo_cover (B : Blocks Ideal) (i : grid0.Coords) : ∀ (n : ℕ) (hn : n ≤ 8) (y : S512x1024.Idx) (rr : Fin 8) (_ : rr.val < n) (_ : (y 0).val / 64 = rr.val),
    ∃ pc ∈ storesTo B i n hn, y ∈ pc.1.set
  | 0, _, _, _, h, _ => absurd h (Nat.not_lt_zero _)
  | n + 1, hn, y, rr, h, hy => by
    by_cases e : rr.val = n
    · obtain ⟨pc, hp, hm⟩ := rowStores_cover B i ⟨n, hn⟩ y (hy.trans e)
      exact ⟨pc, List.mem_append_left _ hp, hm⟩
    · obtain ⟨pc, hp, hm⟩ := storesTo_cover B i n (Nat.le_of_succ_le hn) y rr (by omega) hy
      exact ⟨pc, List.mem_append_right _ hp, hm⟩

variable (m : (ℓ : Loc nD τ sig) → Buf (Elt Ideal) ℓ)

/-- The blocks that grid point `t` loads. -/
def blocksAt (c : Dev nD) (t : Fin cfg0.N) : Blocks Ideal :=
  ⟨iblk m c 0 t, iblk m c 1 t, iblk m c 2 t, iblk m c 3 t, iblk m c 4 t, iblk m c 5 t, iblk m c 6 t, iblk m c 7 t, iblk m c 8 t, iblk m c 9 t, iblk m c 10 t,
    iblk m c 11 t, iblk m c 12 t, iblk m c 13 t⟩

/-- A read of `256` rows of the scratch after the stores that fill them is `mix`. -/
theorem readCov_mix (B : Blocks Ideal) (i : grid0.Coords) (s : View sig .tc .vmem S512x1024 .bf16) (half : Fin 2) (off : Fin 2 → ℕ) (ho : off = ![256 * half.val, 0])
    (h : ∀ a, off a + S256x1024.size a ≤ S512x1024.size a) (n : ℕ) (hn : n ≤ 8) (hle : 4 * half.val + 4 ≤ n) (r : Fin 256) (k : Fin 1024) :
    s.readCov (Val := Elt Ideal) (storesTo B i n hn) (Rect.unit (s := S512x1024) off S256x1024.size h).toLoadRect (ix2 r k)
      = mixAt B (i 1) ⟨256 * half.val + r.val, by omega⟩ k := by
  subst ho
  rw [View.readCov_eq_canon']
  have hr := r.isLt
  have hk := k.isLt
  have hh := half.isLt
  refine (View.canon_apply_of_pieces (Val := Elt Ideal) (mix B (i 1)) _ (View.PiecesOf.mem (storesTo_pieces B i n hn)) _ ?_).trans ?_
  · refine storesTo_cover B i n hn _ ⟨(256 * half.val + r.val) / 64, by omega⟩ (by show (256 * half.val + r.val) / 64 < n; omega) ?_
    show (256 * half.val + 1 * r.val) / 64 = (256 * half.val + r.val) / 64
    rw [Nat.one_mul]
  · exact congrArg₂ (mixAt B (i 1)) (Fin.ext (by show 256 * half.val + 1 * r.val = 256 * half.val + r.val; omega)) (Fin.ext (by show 0 + 1 * k.val = k.val; omega))

theorem outsAt_eq (c : Dev nD) (t : Fin cfg0.N) (y : S512x1024.Idx) :
    outsAt0 m c t y = out (blocksAt m c t) (grid0.coords t 1) y := by
  unfold outsAt0 out0_A_14
  rw [View.read_writes_eq_canon _ _ _ (cover0_A_14 c _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (out (blocksAt m c t) (grid0.coords t 1)) _ ?_ y (cover0_A_14 c _ _ _ _ _ _ _ _ _ _ _ _ _ _ _ _ _ _ _ _ _ _ _ _ _ _ _ _ _ _ _ _ _ _ _ _ _ _ _ _ _ _ _ _ _ _ _ y)
  rw [stores_eq]
  exact View.PiecesOf.mem (show View.PiecesOf _ (_ :: _ :: []) from
    ⟨fun x => out_piece (blocksAt m c t) (grid0.coords t 1) 1 _ _ _ rfl rfl (readCov_mix (blocksAt m c t) (grid0.coords t) _ 1 _ rfl _ 8 (by norm_num) (by decide)) _ _ x,
      fun x => out_piece (blocksAt m c t) (grid0.coords t 1) 0 _ _ _ rfl rfl (readCov_mix (blocksAt m c t) (grid0.coords t) _ 0 _ rfl _ 4 (by norm_num) (by decide)) _ _ x, trivial⟩)

end Cert.Block

end
-- ==== Proof.Layer.lean ====
/- The layer's own formula, over the argument arrays: the gated and normalised mLSTM columns, the neighbourhood attention with
   its normalised weights, the projection added to the stream (`layer`). Both programs are shown to compute it. -/
module

public import proofs.«01_k».proof.Proof.Mix

@[expose] public section

noncomputable section

namespace Cert.Block

open Cert.KernelIdeal Idealize.ShloMosaic

/-- The argument arrays. -/
structure Args where
  q : S32x2048x512.Idx → EReal
  k : S32x2048x512.Idx → EReal
  v : S32x2048x512.Idx → EReal
  km : S16x512.Idx → EReal
  vm : S16x512.Idx → EReal
  rpb : S8x15x31.Idx → EReal
  za : S32x2048x512.Idx → EReal
  hf : S32x2048x512.Idx → EReal
  hb : S32x2048x512.Idx → EReal
  o : S32x2048x512.Idx → EReal
  zm : S32x2048x512.Idx → EReal
  x : S32x2048x1024.Idx → EReal
  g : S512.Idx → EReal
  w : S1024x1024.Idx → EReal

/-- The factor on the scores, `1/8`. -/
def eighth : EReal := Ideal.ofBits .f32 0x3E000000#32

/-- The first key column that a query in column `c` of the grid sees. -/
def colStart (c : ℕ) : ℕ := min (c - 8) 48

/-- Whether a query in column `c` sees the keys in column `kc`. -/
def sees (c kc : ℕ) : Prop := colStart c ≤ kc ∧ kc < colStart c + 16

instance (c kc : ℕ) : Decidable (sees c kc) := inferInstanceAs (Decidable (_ ∧ _))

/-- The grid row of a token. -/
def rowAt (T : Fin 2048) : Fin 32 := ⟨T.val / 64, by omega⟩

/-- The bias row for key `n` of the window of grid row `R`. -/
def relRow (R : Fin 32) (n : Fin 512) : Fin 15 := ⟨firstRow R.val + n.val / 64 + 7 - R.val, by unfold firstRow; omega⟩

/-- The bias column for a key in column `kc` and a query in column `c`. -/
def relCol (c kc : ℕ) : Fin 31 := ⟨min (kc + 15 - c) 30, by omega⟩

/-- The score of token `T` against key `n` of its window, in the head of column `a`. -/
def score (A : Args) (b : Fin 32) (T : Fin 2048) (a n : Fin 512) : EReal :=
  if sees (T.val % 64) (n.val % 64) then
    (∑ d : Fin 64, A.q (ix3 b T (lane512 a d)) * A.k (ix3 b (keyTok (rowAt T) n) (lane512 a d))) * eighth
      + A.rpb (ix3 ⟨a.val / 64, by omega⟩ (relRow (rowAt T) n) (relCol (T.val % 64) (n.val % 64)))
  else ⊥

/-- The score of token `T` against meta key `j`. -/
def metaScore (A : Args) (b : Fin 32) (T : Fin 2048) (a : Fin 512) (j : Fin 16) : EReal :=
  (∑ d : Fin 64, A.q (ix3 b T (lane512 a d)) * A.km (ix2 j (lane512 a d))) * eighth

/-- The attention output of token `T` at column `a`. -/
def attended (A : Args) (b : Fin 32) (T : Fin 2048) (a : Fin 512) : EReal :=
  Softmax.plain (Fin.append (score A b T a) (metaScore A b T a)) (fun n => A.v (ix3 b (keyTok (rowAt T) n) a)) (fun j => A.vm (ix2 j a))

/-- The two directions' sum times the output gate. -/
def summed (A : Args) (b : Fin 32) (T : Fin 2048) (a : Fin 512) : EReal :=
  gated (A.o (ix3 b T a)) (A.hf (ix3 b T a)) (A.hb (ix3 b T a))

/-- Column `i` of the joined branches. -/
def joined (A : Args) (b : Fin 32) (T : Fin 2048) (i : Fin 1024) : EReal :=
  if h : i.val < 512 then rms (summed A b T ⟨i.val, h⟩) (fun l => summed A b T (col ⟨i.val, h⟩ l)) (A.g (ix1 ⟨i.val, h⟩)) * silu (A.zm (ix3 b T ⟨i.val, h⟩))
  else attended A b T ⟨i.val - 512, by omega⟩ * silu (A.za (ix3 b T ⟨i.val - 512, by omega⟩))

/-- The layer's output for token `T` of sequence `b` at column `j`. -/
def layer (A : Args) (b : Fin 32) (T : Fin 2048) (j : Fin 1024) : EReal :=
  A.x (ix3 b T j) + ∑ i : Fin 1024, joined A b T i * A.w (ix2 i j)

/-- The arrays that the scores are made of hold real numbers. -/
structure Finite (A : Args) : Prop where
  q : ∀ i, ∃ r : ℝ, A.q i = r
  k : ∀ i, ∃ r : ℝ, A.k i = r
  km : ∀ i, ∃ r : ℝ, A.km i = r
  rpb : ∀ i, ∃ r : ℝ, A.rpb i = r

theorem eighth_eq : eighth = ((1 / 8 : ℝ) : EReal) := by
  unfold eighth
  simp [Ideal.ofBits, Ideal.ieee]
  rw [← EReal.coe_mul]
  norm_num

theorem real_sum {ι : Type} [Fintype ι] (f g : ι → EReal) (hf : ∀ i, ∃ r : ℝ, f i = r) (hg : ∀ i, ∃ r : ℝ, g i = r) :
    ∃ r : ℝ, ∑ i, f i * g i = r := by
  choose f' hf' using hf
  choose g' hg' using hg
  refine ⟨∑ i, f' i * g' i, ?_⟩
  simp only [hf', hg', ← EReal.coe_mul]
  exact (map_sum (⟨⟨fun r : ℝ => (r : EReal), rfl⟩, EReal.coe_add⟩ : ℝ →+ EReal) _ _).symm

theorem metaScore_real (A : Args) (hA : Finite A) (b : Fin 32) (T : Fin 2048) (a : Fin 512) (j : Fin 16) : ∃ r : ℝ, metaScore A b T a j = r := by
  obtain ⟨r, hr⟩ := real_sum (fun d : Fin 64 => A.q (ix3 b T (lane512 a d))) (fun d => A.km (ix2 j (lane512 a d))) (fun _ => hA.q _) (fun _ => hA.km _)
  exact ⟨r * (1 / 8), by rw [metaScore, hr, eighth_eq, EReal.coe_mul]⟩

theorem score_ne_top (A : Args) (hA : Finite A) (b : Fin 32) (T : Fin 2048) (a n : Fin 512) : score A b T a n ≠ ⊤ := by
  unfold score
  split
  · obtain ⟨r, hr⟩ := real_sum (fun d : Fin 64 => A.q (ix3 b T (lane512 a d))) (fun d => A.k (ix3 b (keyTok (rowAt T) n) (lane512 a d))) (fun _ => hA.q _) (fun _ => hA.k _)
    obtain ⟨s, hs⟩ := hA.rpb (ix3 ⟨a.val / 64, by omega⟩ (relRow (rowAt T) n) (relCol (T.val % 64) (n.val % 64)))
    rw [hr, hs, eighth_eq, ← EReal.coe_mul, ← EReal.coe_add]
    exact EReal.coe_ne_top _
  · exact bot_ne_top

end Cert.Block

end
-- ==== Proof.Point.lean ====
/- A grid point computes the layer: whenever a point's blocks are the arguments' entries (`Reads`), its output block is the
   layer's output for its tokens (`out_eq_layer`). -/
module

public import proofs.«01_k».proof.Proof.Layer

@[expose] public section

set_option maxHeartbeats 1000000

noncomputable section

namespace Cert.Block

open Cert.KernelIdeal Idealize.ShloMosaic

/-- The table of biases for row `r` of `rpb`: `⊥` where the query's column does not see the key's. -/
def toe (rpb : S8x15x31.Idx → EReal) (h : Fin 8) (r : Fin 15) (c kc : Fin 64) : EReal :=
  if sees c.val kc.val then rpb (ix3 h r (relCol c.val kc.val)) else ⊥

/-- Token row `r` of step `jb`. -/
def tokAt (jb : Fin 4) (r : Fin 512) : Fin 2048 := ⟨512 * jb.val + r.val, by omega⟩

/-- The blocks of step `jb` of sequence `b` hold the arguments' entries. -/
structure Reads (A : Args) (B : Blocks Ideal) (b : Fin 32) (jb : Fin 4) : Prop where
  q : ∀ r a, B.q (ix2 r a) = A.q (ix3 b (tokAt jb r) a) * eighth
  za : ∀ r a, B.za (ix2 r a) = A.za (ix3 b (tokAt jb r) a)
  k : ∀ n a, B.k (ix2 n a) = A.k (ix3 b n a)
  v : ∀ n a, B.v (ix2 n a) = A.v (ix3 b n a)
  km : ∀ n a, B.km (ix2 n a) = A.km (ix2 n a)
  vm : ∀ n a, B.vm (ix2 n a) = A.vm (ix2 n a)
  bias : ∀ (p : Fin 4) (d : Fin 8) (w : Fin 128) (k : Fin 512), B.bias (ix4 p d w k)
    = toe A.rpb ⟨p.val * 2 + w.val / 64, by omega⟩ ⟨d.val + k.val / 64, by omega⟩ ⟨w.val % 64, by omega⟩ ⟨k.val % 64, by omega⟩
  hf : ∀ r a, B.hf (ix2 r a) = A.hf (ix3 b (tokAt jb r) a)
  hb : ∀ r a, B.hb (ix2 r a) = A.hb (ix3 b (tokAt jb r) a)
  o : ∀ r a, B.o (ix2 r a) = A.o (ix3 b (tokAt jb r) a)
  zm : ∀ r a, B.zm (ix2 r a) = A.zm (ix3 b (tokAt jb r) a)
  x : ∀ r j, B.x (ix2 r j) = A.x (ix3 b (tokAt jb r) j)
  g : ∀ a, B.g (ix2 0 a) = A.g (ix1 a)
  w : ∀ i j, B.w (ix2 i j) = A.w (ix2 i j)

variable {A : Args} {B : Blocks Ideal} {b : Fin 32} {jb : Fin 4}

theorem rowAt_tok (jb : Fin 4) (r : Fin 512) : rowAt (tokAt jb r) = gridRow jb r :=
  Fin.ext (by show (512 * jb.val + r.val) / 64 = 8 * jb.val + r.val / 64; omega)

theorem bias_eq (H : Reads A B b jb) (r a n : Fin 512) :
    B.bias (ix4 ⟨a.val / 128, by omega⟩ (shift (gridRow jb r)) (biasRow r a) n)
      = if sees ((tokAt jb r).val % 64) (n.val % 64) then
          A.rpb (ix3 ⟨a.val / 64, by omega⟩ (relRow (gridRow jb r) n) (relCol ((tokAt jb r).val % 64) (n.val % 64))) else ⊥ := by
  have ha := a.isLt
  have hn := n.isLt
  have h1 : (biasRow r a).val % 64 = (tokAt jb r).val % 64 := by
    show (64 * (a.val / 64 % 2) + r.val % 64) % 64 = (512 * jb.val + r.val) % 64; omega
  have h2 : (⟨a.val / 128 * 2 + (biasRow r a).val / 64, by omega⟩ : Fin 8) = ⟨a.val / 64, by omega⟩ := Fin.ext (by
    show a.val / 128 * 2 + (64 * (a.val / 64 % 2) + r.val % 64) / 64 = a.val / 64; omega)
  have h3 : (⟨(shift (gridRow jb r)).val + n.val / 64, by omega⟩ : Fin 15) = relRow (gridRow jb r) n := Fin.ext (by
    show firstRow (gridRow jb r).val + 7 - (gridRow jb r).val + n.val / 64 = firstRow (gridRow jb r).val + n.val / 64 + 7 - (gridRow jb r).val
    unfold firstRow; have := (gridRow jb r).isLt; omega)
  rw [H.bias]
  show (if sees ((biasRow r a).val % 64) (n.val % 64) then A.rpb (ix3 (⟨a.val / 128 * 2 + (biasRow r a).val / 64, _⟩ : Fin 8) (⟨(shift (gridRow jb r)).val + n.val / 64, _⟩ : Fin 15) (relCol ((biasRow r a).val % 64) (n.val % 64))) else ⊥) = _
  rw [h1, h2, h3]

theorem score_eq (H : Reads A B b jb) (r a n : Fin 512) :
    (∑ d : Fin 64, B.q (ix2 r (lane512 a d)) * B.k (ix2 (keyTok (gridRow jb r) n) (lane512 a d)))
      + B.bias (ix4 ⟨a.val / 128, by omega⟩ (shift (gridRow jb r)) (biasRow r a) n) = score A b (tokAt jb r) a n := by
  rw [bias_eq H, score, rowAt_tok]
  simp only [H.q, H.k]
  split
  · rw [eighth_eq, Softmax.sum_scaled (1 / 8) (by norm_num)]
  · exact EReal.add_bot _

theorem meta_eq (H : Reads A B b jb) (r a : Fin 512) (n : Fin 16) :
    (∑ d : Fin 64, B.q (ix2 r (lane512 a d)) * B.km (ix2 n (lane512 a d))) = metaScore A b (tokAt jb r) a n := by
  unfold metaScore
  simp only [H.q, H.km]
  rw [eighth_eq, Softmax.sum_scaled (1 / 8) (by norm_num)]

theorem attn_eq (hA : Finite A) (H : Reads A B b jb) (r a : Fin 512) :
    attn B (gridRow jb r) r a = attended A b (tokAt jb r) a * silu (A.za (ix3 b (tokAt jb r) a)) := by
  unfold attn attended
  simp only [score_eq H, meta_eq H, H.v, H.vm, H.za]
  rw [← rowAt_tok]
  refine congrArg (· * _) ?_
  have key := Softmax.late_eq_plain (Fin.append (score A b (tokAt jb r) a) (metaScore A b (tokAt jb r) a))
    (fun n => A.v (ix3 b (keyTok (rowAt (tokAt jb r)) n) a)) (fun j => A.vm (ix2 j a)) (fun i => by
      refine Fin.addCases (fun n => ?_) (fun j => ?_) i
      · rw [Fin.append_left]; exact score_ne_top A hA b _ a n
      · rw [Fin.append_right]
        obtain ⟨s, hs⟩ := metaScore_real A hA b (tokAt jb r) a j
        rw [hs]; exact EReal.coe_ne_top _)
    (fun j => by rw [Fin.append_right]; exact metaScore_real A hA b _ a j)
  simpa only [Fin.append_left, Fin.append_right] using key

theorem mlstm_eq (H : Reads A B b jb) (r a : Fin 512) :
    mlstm B r a = rms (summed A b (tokAt jb r) a) (fun l => summed A b (tokAt jb r) (col a l)) (A.g (ix1 a)) * silu (A.zm (ix3 b (tokAt jb r) a)) := by
  unfold mlstm summed
  simp only [H.o, H.hf, H.hb, H.g, H.zm]

theorem out_eq_layer (hA : Finite A) (H : Reads A B b jb) (r : Fin 512) (j : Fin 1024) : out B jb (ix2 r j) = layer A b (tokAt jb r) j := by
  show B.x (ix2 r j) + ∑ i : Fin 1024, mixAt B jb r i * B.w (ix2 i j) = _
  unfold layer
  rw [H.x]
  refine congrArg (_ + ·) (Finset.sum_congr rfl fun i _ => ?_)
  rw [H.w]
  refine congrArg (· * _) ?_
  unfold mixAt joined
  split
  · exact mlstm_eq H r _
  · exact attn_eq hA H r _

end Cert.Block

end
-- ==== Proof.Host.lean ====
/- The operands that the host code prepares, in terms of the argument arrays (`V_…`), and the relative-position table, which is
   `rpb` along the diagonals inside the 16 columns that a query sees and `⊥` outside (`V_toe`). -/
module

public import proofs.«01_k».proof.Proof.Pieces
public import proofs.«01_k».proof.Proof.Point
public import Idealize.ShloMosaic.Lib.StableHlo.ReadAt
public import Idealize.ShloMosaic.Lib.Pointwise
public import Idealize.ShloMosaic.Lib.Pipeline.ValueKit

@[expose] public section

set_option maxRecDepth 65536
set_option maxHeartbeats 8000000

noncomputable section

namespace Cert.Block

open Cert.KernelIdeal Cert.KernelIdeal.Gen Idealize.ShloMosaic Idealize.ShloMosaic.TcCoe Idealize.ShloMosaic.Tactic

variable (m : (ℓ : Loc nD τ sig) → Buf (Elt Ideal) ℓ)

/-- The argument arrays of a launch. -/
def argsOf (c : Dev nD) : Args :=
  ⟨m (c, Proc.tc.devRef main_arg0), m (c, Proc.tc.devRef main_arg1), m (c, Proc.tc.devRef main_arg2), m (c, Proc.tc.devRef main_arg3),
    m (c, Proc.tc.devRef main_arg4), m (c, Proc.tc.devRef main_arg5), m (c, Proc.tc.devRef main_arg6), m (c, Proc.tc.devRef main_arg7),
    m (c, Proc.tc.devRef main_arg8), m (c, Proc.tc.devRef main_arg9), m (c, Proc.tc.devRef main_arg10), m (c, Proc.tc.devRef main_arg11),
    m (c, Proc.tc.devRef main_arg12), m (c, Proc.tc.devRef main_arg13)⟩

/-- The sequence of row `n` of the flattened tokens. -/
def seqOf (n : Fin 65536) : Fin 32 := ⟨n.val / 2048, by omega⟩

/-- The token of row `n` of the flattened tokens. -/
def tokOf (n : Fin 65536) : Fin 2048 := ⟨n.val % 2048, by omega⟩

theorem V_q (c : Dev nD) (n : Fin 65536) (a : Fin 512) : V m c main_v55 (ix2 n a) = (argsOf m c).q (ix3 (seqOf n) (tokOf n) a) * eighth := by
  unfold V
  after_reads_at
  rfl

theorem V_za (c : Dev nD) (n : Fin 65536) (a : Fin 512) : V m c main_v57 (ix2 n a) = (argsOf m c).za (ix3 (seqOf n) (tokOf n) a) := by
  unfold V
  after_reads_at
  rfl

theorem V_k (c : Dev nD) (n : Fin 65536) (a : Fin 512) : V m c main_v59 (ix2 n a) = (argsOf m c).k (ix3 (seqOf n) (tokOf n) a) := by
  unfold V
  after_reads_at
  rfl

theorem V_v (c : Dev nD) (n : Fin 65536) (a : Fin 512) : V m c main_v61 (ix2 n a) = (argsOf m c).v (ix3 (seqOf n) (tokOf n) a) := by
  unfold V
  after_reads_at
  rfl

theorem V_hf (c : Dev nD) (n : Fin 65536) (a : Fin 512) : V m c main_v65 (ix2 n a) = (argsOf m c).hf (ix3 (seqOf n) (tokOf n) a) := by
  unfold V
  after_reads_at
  rfl

theorem V_hb (c : Dev nD) (n : Fin 65536) (a : Fin 512) : V m c main_v67 (ix2 n a) = (argsOf m c).hb (ix3 (seqOf n) (tokOf n) a) := by
  unfold V
  after_reads_at
  rfl

theorem V_o (c : Dev nD) (n : Fin 65536) (a : Fin 512) : V m c main_v69 (ix2 n a) = (argsOf m c).o (ix3 (seqOf n) (tokOf n) a) := by
  unfold V
  after_reads_at
  rfl

theorem V_zm (c : Dev nD) (n : Fin 65536) (a : Fin 512) : V m c main_v71 (ix2 n a) = (argsOf m c).zm (ix3 (seqOf n) (tokOf n) a) := by
  unfold V
  after_reads_at
  rfl

theorem V_x (c : Dev nD) (n : Fin 65536) (a : Fin 1024) : V m c main_v72 (ix2 n a) = (argsOf m c).x (ix3 (seqOf n) (tokOf n) a) := by
  unfold V
  after_reads_at
  rfl

theorem V_km (c : Dev nD) (n : Fin 16) (a : Fin 512) : V m c main_v62 (ix2 n a) = (argsOf m c).km (ix2 n a) := by
  unfold V
  after_reads_at
  rfl

theorem V_vm (c : Dev nD) (n : Fin 16) (a : Fin 512) : V m c main_v63 (ix2 n a) = (argsOf m c).vm (ix2 n a) := by
  unfold V
  after_reads_at
  rfl

theorem V_g (c : Dev nD) (a : Fin 512) : V m c main_v0 (ix2 0 a) = (argsOf m c).g (ix1 a) := by
  unfold V
  after_reads_at
  rfl

theorem V_w (c : Dev nD) (a b : Fin 1024) : V m c main_v51 (ix2 a b) = (argsOf m c).w (ix2 a b) := by
  unfold V
  after_reads_at
  rfl

/-- The mask word of a query column and a key column. -/
theorem mask_word : ∀ a b : Fin 64,
    IntOp.andi
      (IntOp.cmpi CmpIPredicate.sge (BitVec.ofNat 32 b.val)
        (IntOp.minsi (id (constantI S_ 32 48#32) ix0)
          (IntOp.maxsi (id (constantI S_ 32 0#32) ix0) (IntOp.subi (BitVec.ofNat 32 a.val) 8#32))))
      (IntOp.cmpi CmpIPredicate.slt (BitVec.ofNat 32 b.val)
        (IntOp.addi
          (IntOp.minsi (id (constantI S_ 32 48#32) ix0)
            (IntOp.maxsi (id (constantI S_ 32 0#32) ix0) (IntOp.subi (BitVec.ofNat 32 a.val) 8#32)))
          16#32))
      = if sees a.val b.val then 1#1 else 0#1 := by
  decide +kernel

theorem bot_word : (id (constant (F := Ideal) S_ FTy.f32 4286578688#32) ix0 : EReal) = ⊥ := by
  show Ideal.ofBits FTy.f32 4286578688#32 = ⊥
  simp [Ideal.ofBits, Ideal.ieee]

/-- A select by a word that says `P`. -/
theorem select_word {P : Prop} [Decidable P] {w : BitVec 1} (hw : w = if P then 1#1 else 0#1) {x y t : EReal} (hx : P → x = t) (hy : ¬ P → y = t) :
    Scalar.select (α := EReal) w x y = t := by
  subst hw
  by_cases h : P
  · rw [if_pos h]; exact hx h
  · rw [if_neg h]; exact hy h

theorem sees_bounds {a b : ℕ} (h : sees a b) : b ≤ a + 15 ∧ (b < 64 → a < 64 → a ≤ b + 15) := by
  obtain ⟨h1, h2⟩ := h
  unfold colStart at h1 h2
  omega

/-- The row of `rpb` laid out around its middle, with zeros between its two ends. -/
theorem V_line (c : Dev nD) (h : Fin 8) (r : Fin 15) (i : Fin 129) (e : Fin 31) (he : i.val < 16 ∧ e.val = 15 + i.val ∨ 114 ≤ i.val ∧ e.val + 114 = i.val) :
    V m c main_v4 (ix3 h r i) = (argsOf m c).rpb (ix3 h r e) := by
  unfold V
  after_reads_at
  split
  · after_reads_at
    exact congrArg (m (c, Proc.tc.devRef main_arg5)) (congrArg (ix3 h r) (Fin.ext (by show 15 + i.val = e.val; omega)))
  · split
    · exfalso
      omega
    · after_reads_at
      exact congrArg (m (c, Proc.tc.devRef main_arg5)) (congrArg (ix3 h r) (Fin.ext (by show i.val - 16 - 98 = e.val; omega)))

/-- The table is read along the line's diagonals. -/
theorem V_diag (c : Dev nD) (h : Fin 8) (r : Fin 15) (a b : Fin 64) :
    V m c main_v10 (ix4 h r a b) = V m c main_v4 (ix3 h r ⟨(a.val * 128 + b.val) % 129, Nat.mod_lt _ (by norm_num)⟩) := by
  unfold V
  after_reads_at
  after_reads_at

theorem V_toe (c : Dev nD) (h : Fin 8) (r : Fin 15) (a b : Fin 64) : V m c main_v29 (ix4 h r a b) = toe (argsOf m c).rpb h r a b := by
  have ha := a.isLt
  have hb := b.isLt
  have key : sees a.val b.val → V m c main_v10 (ix4 h r a b) = toe (argsOf m c).rpb h r a b := fun hs => by
    rw [V_diag, toe, if_pos hs]
    obtain ⟨h1, h2⟩ := sees_bounds hs
    have h2 := h2 hb ha
    refine V_line m c h r _ _ ?_
    show (a.val * 128 + b.val) % 129 < 16 ∧ min (b.val + 15 - a.val) 30 = 15 + (a.val * 128 + b.val) % 129
      ∨ 114 ≤ (a.val * 128 + b.val) % 129 ∧ min (b.val + 15 - a.val) 30 + 114 = (a.val * 128 + b.val) % 129
    omega
  have key' : V m c main_v29 (ix4 h r a b) = Scalar.select (α := EReal) (IntOp.andi
      (IntOp.cmpi CmpIPredicate.sge (BitVec.ofNat 32 b.val)
        (IntOp.minsi (id (constantI S_ 32 48#32) ix0)
          (IntOp.maxsi (id (constantI S_ 32 0#32) ix0) (IntOp.subi (BitVec.ofNat 32 a.val) 8#32))))
      (IntOp.cmpi CmpIPredicate.slt (BitVec.ofNat 32 b.val)
        (IntOp.addi
          (IntOp.minsi (id (constantI S_ 32 48#32) ix0)
            (IntOp.maxsi (id (constantI S_ 32 0#32) ix0) (IntOp.subi (BitVec.ofNat 32 a.val) 8#32)))
          16#32))) (V m c main_v10 (ix4 h r a b)) (id (constant (F := Ideal) S_ FTy.f32 4286578688#32) ix0 : EReal) := by
    unfold V
    after_reads_at
  exact key'.trans (select_word (mask_word a b) key (fun hs => bot_word.trans (if_neg hs).symm))

end Cert.Block

end
-- ==== Proof.HostBias.lean ====
/- The bias blocks of the kernel: rows of the relative-position table, cut at each of the 8 starts of a window (`V_bias`). -/
module

public import proofs.«01_k».proof.Proof.Host
public import Idealize.ShloMosaic.Lib.StableHlo.ReadAt
public import Idealize.ShloMosaic.Lib.Pointwise
public import Idealize.ShloMosaic.Lib.Pipeline.ValueKit

@[expose] public section

set_option maxRecDepth 65536
set_option maxHeartbeats 8000000

noncomputable section

namespace Cert.Block

open Cert.KernelIdeal Cert.KernelIdeal.Gen Idealize.ShloMosaic Idealize.ShloMosaic.TcCoe Idealize.ShloMosaic.Tactic

variable (m : (ℓ : Loc nD τ sig) → Buf (Elt Ideal) ℓ)

theorem V_bias (c : Dev nD) (p : Fin 4) (d : Fin 8) (w : Fin 128) (k : Fin 512) :
    V m c main_v50 (ix4 p d w k) = toe (argsOf m c).rpb ⟨p.val * 2 + w.val / 64, by omega⟩ ⟨d.val + k.val / 64, by omega⟩ ⟨w.val % 64, by omega⟩ ⟨k.val % 64, by omega⟩ := by
  rw [← V_toe m c]
  have e : ∀ (r : Fin 15), r.val = d.val + k.val / 64 → V m c main_v50 (ix4 p d w k) = V m c main_v29 (ix4 ⟨p.val * 2 + w.val / 64, by omega⟩ r ⟨w.val % 64, by omega⟩ ⟨k.val % 64, by omega⟩) := by
    intro r hr
    obtain ⟨d, hd⟩ := d
    obtain ⟨r, hr'⟩ := r
    interval_cases d
    all_goals
      simp only [Nat.zero_add] at hr
      subst hr
      unfold V
      after_reads_at
      after_reads_at
      try after_reads_at
  exact e _ rfl

end Cert.Block

end
-- ==== Proof.KernelValue.lean ====
/- What the kernel's run leaves in its result: each grid point's blocks are the arguments' entries (`reads_at`), so the result
   holds the layer's output, token by token (`arr_eq_layer`). -/
module

public import proofs.«01_k».proof.Proof.Pieces
public import proofs.«01_k».proof.Proof.HostBias

@[expose] public section

set_option maxRecDepth 65536
set_option maxHeartbeats 8000000

noncomputable section

namespace Cert.Block

open Cert.KernelIdeal Cert.KernelIdeal.Gen Idealize.ShloMosaic Idealize.ShloMosaic.TcCoe Idealize.ShloMosaic.Tactic

/-- The windows over token rows step through their arrays with the grid point. -/
theorem idx_rows : ∀ t : Fin grid0.N,
    (win0_0.index t 0 = t.val ∧ win0_0.index t 1 = 0) ∧ (win0_1.index t 0 = t.val ∧ win0_1.index t 1 = 0)
    ∧ (win0_7.index t 0 = t.val ∧ win0_7.index t 1 = 0) ∧ (win0_8.index t 0 = t.val ∧ win0_8.index t 1 = 0)
    ∧ (win0_9.index t 0 = t.val ∧ win0_9.index t 1 = 0) ∧ (win0_10.index t 0 = t.val ∧ win0_10.index t 1 = 0)
    ∧ (win0_11.index t 0 = t.val ∧ win0_11.index t 1 = 0) ∧ (win0_14.index t 0 = t.val ∧ win0_14.index t 1 = 0) := by
  decide +kernel

/-- The keys' and values' windows step with the sequence. -/
theorem idx_seq : ∀ t : Fin grid0.N,
    (win0_2.index t 0 = t.val / 4 ∧ win0_2.index t 1 = 0) ∧ (win0_3.index t 0 = t.val / 4 ∧ win0_3.index t 1 = 0) := by
  decide +kernel

/-- The other windows stay. -/
theorem idx_const : ∀ t : Fin grid0.N,
    (win0_4.index t 0 = 0 ∧ win0_4.index t 1 = 0) ∧ (win0_5.index t 0 = 0 ∧ win0_5.index t 1 = 0)
    ∧ (win0_6.index t 0 = 0 ∧ win0_6.index t 1 = 0 ∧ win0_6.index t 2 = 0 ∧ win0_6.index t 3 = 0)
    ∧ (win0_12.index t 0 = 0 ∧ win0_12.index t 1 = 0) ∧ (win0_13.index t 0 = 0 ∧ win0_13.index t 1 = 0) := by
  decide +kernel

theorem coords_step : ∀ t : Fin grid0.N, (grid0.coords t 1).val = t.val % 4 := by
  decide +kernel

/-- An array read at a place whose coordinates are known. -/
theorem read2 {N M : ℕ} (X : (⟨2, ![N, M]⟩ : Shape).Idx → EReal) (z : (⟨2, ![N, M]⟩ : Shape).Idx) (n : Fin N) (a : Fin M)
    (h0 : (z 0).val = n.val) (h1 : (z 1).val = a.val) : X z = X (ix2 n a) :=
  congrArg X (funext fun x => Fin.ext (match x with
    | ⟨0, _⟩ => h0
    | ⟨1, _⟩ => h1))

/-- The same for an array of four axes. -/
theorem read4 {N0 N1 N2 N3 : ℕ} (X : (⟨4, ![N0, N1, N2, N3]⟩ : Shape).Idx → EReal) (z : (⟨4, ![N0, N1, N2, N3]⟩ : Shape).Idx)
    (a : Fin N0) (b : Fin N1) (c : Fin N2) (d : Fin N3) (h0 : (z 0).val = a.val) (h1 : (z 1).val = b.val) (h2 : (z 2).val = c.val)
    (h3 : (z 3).val = d.val) : X z = X (ix4 a b c d) :=
  congrArg X (funext fun x => Fin.ext (match x with
    | ⟨0, _⟩ => h0
    | ⟨1, _⟩ => h1
    | ⟨2, _⟩ => h2
    | ⟨3, _⟩ => h3))

theorem at_block {i t s r : ℕ} (e : i = t) : i * s + r = s * t + r := by rw [e, Nat.mul_comm]

theorem at_zero {i s r : ℕ} (e : i = 0) : i * s + r = r := by rw [e, Nat.zero_mul, Nat.zero_add]

/-- The sequence of grid point `t`. -/
def seqAt (t : Fin cfg0.N) : Fin 32 := ⟨t.val / 4, by have h : t.val < 128 := t.isLt; omega⟩

/-- Row `r` of the tile of grid point `t`. -/
def tileRow (t : Fin cfg0.N) (r : Fin 512) : Fin 65536 := ⟨512 * t.val + r.val, by have h : t.val < 128 := t.isLt; omega⟩

/-- Row `n` of the sequence of grid point `t`. -/
def seqRow (t : Fin cfg0.N) (n : Fin 2048) : Fin 65536 := ⟨2048 * (t.val / 4) + n.val, by have h : t.val < 128 := t.isLt; omega⟩

theorem seqOf_tile (t : Fin cfg0.N) (r : Fin 512) : seqOf (tileRow t r) = seqAt t :=
  Fin.ext (by show (512 * t.val + r.val) / 2048 = t.val / 4; omega)

theorem tokOf_tile (t : Fin cfg0.N) (r : Fin 512) : tokOf (tileRow t r) = tokAt (grid0.coords t 1) r :=
  Fin.ext (by
    show (512 * t.val + r.val) % 2048 = 512 * (grid0.coords t 1).val + r.val
    rw [coords_step]; omega)

theorem seqOf_seqRow (t : Fin cfg0.N) (n : Fin 2048) : seqOf (seqRow t n) = seqAt t :=
  Fin.ext (by show (2048 * (t.val / 4) + n.val) / 2048 = t.val / 4; omega)

theorem tokOf_seqRow (t : Fin cfg0.N) (n : Fin 2048) : tokOf (seqRow t n) = n :=
  Fin.ext (by show (2048 * (t.val / 4) + n.val) % 2048 = n.val; omega)

variable (m : (ℓ : Loc nD τ sig) → Buf (Elt Ideal) ℓ)

/-- Window 6 reads its array, whatever the arrays hold. -/
theorem bias_read (c : Dev nD) (t : Fin cfg0.N) (W : (b : Ref sig .tc) → Buf (Elt Ideal) ((c : Thread nD τ).loc b)) (p : Fin 4) (d : Fin 8) (w : Fin 128)
    (k : Fin 512) : ((cfg0.win 6).blk t).view.read (Elt Ideal) (W (Pipeline.arrRef spec0 6)) (ix4 p d w k)
      = W main_v50 (((cfg0.win 6).blk t).view.emb (ix4 p d w k)) := rfl

theorem bias_block (c : Dev nD) (t : Fin cfg0.N) (p : Fin 4) (d : Fin 8) (w : Fin 128) (k : Fin 512) :
    (blocksAt m c t).bias (ix4 p d w k) = V m c main_v50 (((cfg0.win 6).blk t).view.emb (ix4 p d w k)) :=
  bias_read c t (V m c) p d w k

/-- The blocks that grid point `t` loads are the arguments' entries. -/
theorem reads_at (c : Dev nD) (t : Fin cfg0.N) : Reads (argsOf m c) (blocksAt m c t) (seqAt t) (grid0.coords t 1) where
  q r a := (read2 (V m c main_v55) (((cfg0.win 0).blk t).view.emb (ix2 r a)) (tileRow t r) a
    ((Pipeline.Window.rect_emb_val win0_0 t (ix2 r a) 0 rfl).trans (at_block (idx_rows t).1.1))
    ((Pipeline.Window.rect_emb_val win0_0 t (ix2 r a) 1 rfl).trans (at_zero (idx_rows t).1.2))).trans
    ((V_q m c _ a).trans (by rw [seqOf_tile, tokOf_tile]))
  za r a := (read2 (V m c main_v57) (((cfg0.win 1).blk t).view.emb (ix2 r a)) (tileRow t r) a
    ((Pipeline.Window.rect_emb_val win0_1 t (ix2 r a) 0 rfl).trans (at_block (idx_rows t).2.1.1))
    ((Pipeline.Window.rect_emb_val win0_1 t (ix2 r a) 1 rfl).trans (at_zero (idx_rows t).2.1.2))).trans
    ((V_za m c _ a).trans (by rw [seqOf_tile, tokOf_tile]))
  k n a := (read2 (V m c main_v59) (((cfg0.win 2).blk t).view.emb (ix2 n a)) (seqRow t n) a
    ((Pipeline.Window.rect_emb_val win0_2 t (ix2 n a) 0 rfl).trans (at_block (idx_seq t).1.1))
    ((Pipeline.Window.rect_emb_val win0_2 t (ix2 n a) 1 rfl).trans (at_zero (idx_seq t).1.2))).trans
    ((V_k m c _ a).trans (by rw [seqOf_seqRow, tokOf_seqRow]))
  v n a := (read2 (V m c main_v61) (((cfg0.win 3).blk t).view.emb (ix2 n a)) (seqRow t n) a
    ((Pipeline.Window.rect_emb_val win0_3 t (ix2 n a) 0 rfl).trans (at_block (idx_seq t).2.1))
    ((Pipeline.Window.rect_emb_val win0_3 t (ix2 n a) 1 rfl).trans (at_zero (idx_seq t).2.2))).trans
    ((V_v m c _ a).trans (by rw [seqOf_seqRow, tokOf_seqRow]))
  km n a := (read2 (V m c main_v62) (((cfg0.win 4).blk t).view.emb (ix2 n a)) n a
    ((Pipeline.Window.rect_emb_val win0_4 t (ix2 n a) 0 rfl).trans (at_zero (idx_const t).1.1))
    ((Pipeline.Window.rect_emb_val win0_4 t (ix2 n a) 1 rfl).trans (at_zero (idx_const t).1.2))).trans (V_km m c n a)
  vm n a := (read2 (V m c main_v63) (((cfg0.win 5).blk t).view.emb (ix2 n a)) n a
    ((Pipeline.Window.rect_emb_val win0_5 t (ix2 n a) 0 rfl).trans (at_zero (idx_const t).2.1.1))
    ((Pipeline.Window.rect_emb_val win0_5 t (ix2 n a) 1 rfl).trans (at_zero (idx_const t).2.1.2))).trans (V_vm m c n a)
  bias p d w k := (bias_block m c t p d w k).trans ((read4 (V m c main_v50) (((cfg0.win 6).blk t).view.emb (ix4 p d w k)) p d w k
    ((Pipeline.Window.rect_emb_val win0_6 t (ix4 p d w k) 0 rfl).trans (at_zero (idx_const t).2.2.1.1))
    ((Pipeline.Window.rect_emb_val win0_6 t (ix4 p d w k) 1 rfl).trans (at_zero (idx_const t).2.2.1.2.1))
    ((Pipeline.Window.rect_emb_val win0_6 t (ix4 p d w k) 2 rfl).trans (at_zero (idx_const t).2.2.1.2.2.1))
    ((Pipeline.Window.rect_emb_val win0_6 t (ix4 p d w k) 3 rfl).trans (at_zero (idx_const t).2.2.1.2.2.2))).trans (V_bias m c p d w k))
  hf r a := (read2 (V m c main_v65) (((cfg0.win 7).blk t).view.emb (ix2 r a)) (tileRow t r) a
    ((Pipeline.Window.rect_emb_val win0_7 t (ix2 r a) 0 rfl).trans (at_block (idx_rows t).2.2.1.1))
    ((Pipeline.Window.rect_emb_val win0_7 t (ix2 r a) 1 rfl).trans (at_zero (idx_rows t).2.2.1.2))).trans
    ((V_hf m c _ a).trans (by rw [seqOf_tile, tokOf_tile]))
  hb r a := (read2 (V m c main_v67) (((cfg0.win 8).blk t).view.emb (ix2 r a)) (tileRow t r) a
    ((Pipeline.Window.rect_emb_val win0_8 t (ix2 r a) 0 rfl).trans (at_block (idx_rows t).2.2.2.1.1))
    ((Pipeline.Window.rect_emb_val win0_8 t (ix2 r a) 1 rfl).trans (at_zero (idx_rows t).2.2.2.1.2))).trans
    ((V_hb m c _ a).trans (by rw [seqOf_tile, tokOf_tile]))
  o r a := (read2 (V m c main_v69) (((cfg0.win 9).blk t).view.emb (ix2 r a)) (tileRow t r) a
    ((Pipeline.Window.rect_emb_val win0_9 t (ix2 r a) 0 rfl).trans (at_block (idx_rows t).2.2.2.2.1.1))
    ((Pipeline.Window.rect_emb_val win0_9 t (ix2 r a) 1 rfl).trans (at_zero (idx_rows t).2.2.2.2.1.2))).trans
    ((V_o m c _ a).trans (by rw [seqOf_tile, tokOf_tile]))
  zm r a := (read2 (V m c main_v71) (((cfg0.win 10).blk t).view.emb (ix2 r a)) (tileRow t r) a
    ((Pipeline.Window.rect_emb_val win0_10 t (ix2 r a) 0 rfl).trans (at_block (idx_rows t).2.2.2.2.2.1.1))
    ((Pipeline.Window.rect_emb_val win0_10 t (ix2 r a) 1 rfl).trans (at_zero (idx_rows t).2.2.2.2.2.1.2))).trans
    ((V_zm m c _ a).trans (by rw [seqOf_tile, tokOf_tile]))
  x r j := (read2 (V m c main_v72) (((cfg0.win 11).blk t).view.emb (ix2 r j)) (tileRow t r) j
    ((Pipeline.Window.rect_emb_val win0_11 t (ix2 r j) 0 rfl).trans (at_block (idx_rows t).2.2.2.2.2.2.1.1))
    ((Pipeline.Window.rect_emb_val win0_11 t (ix2 r j) 1 rfl).trans (at_zero (idx_rows t).2.2.2.2.2.2.1.2))).trans
    ((V_x m c _ j).trans (by rw [seqOf_tile, tokOf_tile]))
  g a := (read2 (V m c main_v0) (((cfg0.win 12).blk t).view.emb (ix2 0 a)) 0 a
    ((Pipeline.Window.rect_emb_val win0_12 t (ix2 0 a) 0 rfl).trans (at_zero (idx_const t).2.2.2.1.1))
    ((Pipeline.Window.rect_emb_val win0_12 t (ix2 0 a) 1 rfl).trans (at_zero (idx_const t).2.2.2.1.2))).trans (V_g m c a)
  w i j := (read2 (V m c main_v51) (((cfg0.win 13).blk t).view.emb (ix2 i j)) i j
    ((Pipeline.Window.rect_emb_val win0_13 t (ix2 i j) 0 rfl).trans (at_zero (idx_const t).2.2.2.2.1))
    ((Pipeline.Window.rect_emb_val win0_13 t (ix2 i j) 1 rfl).trans (at_zero (idx_const t).2.2.2.2.2))).trans (V_w m c i j)

/-- The result of the run: the layer's output at every token. -/
theorem arr_eq_layer (c : Dev nD) (hA : Finite (argsOf m c)) :
    (dats m 0 c).arrAt 14 cfg0.N = fun i : S65536x1024.Idx => layer (argsOf m c) (seqOf (i 0)) (tokOf (i 0)) (i 1) := by
  refine (dats m 0 c).arrAt_eq_of_covers 14 _ (by decide +kernel) fun t hf y => ?_
  blk_simp
  rw [after0_14, outsAt_eq]
  have e0 : (((win0_14.blk t).view.emb y) 0 : Fin 65536) = tileRow t (y 0) :=
    Fin.ext ((Pipeline.Window.rect_emb_val win0_14 t y 0 rfl).trans (at_block (idx_rows t).2.2.2.2.2.2.2.1))
  have e1 : (((win0_14.blk t).view.emb y) 1 : Fin 1024) = y 1 :=
    Fin.ext ((Pipeline.Window.rect_emb_val win0_14 t y 1 rfl).trans (at_zero (idx_rows t).2.2.2.2.2.2.2.2))
  refine Eq.trans ?_ (congrArg₂ (fun (n : Fin 65536) (j : Fin 1024) => layer (argsOf m c) (seqOf n) (tokOf n) j) e0 e1).symm
  show out (blocksAt m c t) (grid0.coords t 1) (ix2 (y 0) (y 1)) = layer (argsOf m c) (seqOf (tileRow t (y 0))) (tokOf (tileRow t (y 0))) (y 1)
  exact (out_eq_layer hA (reads_at m c t) (y 0) (y 1)).trans
    (congrArg₂ (fun b T => layer (argsOf m c) b T (y 1)) (seqOf_tile t (y 0)) (tokOf_tile t (y 0))).symm

end Cert.Block

end
-- ==== Proof.RefWords.lean ====
/- The reference's index arithmetic: which key rows it gathers, which bias entries, and which keys its mask lets through, each
   read off the words that it computes. -/
module

public import proofs.«01_k».proof.Proof.Layer
public import proofs.«01_k».proof.Proof.Gen.ReferenceIdeal.Read
public import Idealize.ShloMosaic.Lib.Pointwise

@[expose] public section

set_option maxRecDepth 65536
set_option maxHeartbeats 2000000

noncomputable section

namespace Cert.RefRead

open Cert.ReferenceIdeal Cert.ReferenceIdeal.Gen Cert.ReferenceIdeal.Read Cert.Block Idealize.ShloMosaic

theorem key_row : ∀ (R : Fin 32) (kr : Fin 8), (val_main_v51 (F := Ideal) (ix3 R kr 0)).toInt.toNat = firstRow R.val + kr.val := by
  decide +kernel

theorem value_row : ∀ (R : Fin 32) (kr : Fin 8), (val_main_v58 (F := Ideal) (ix3 R kr 0)).toInt.toNat = firstRow R.val + kr.val := by
  decide +kernel

theorem rel_row : ∀ (R : Fin 32) (kr : Fin 8), (val_main_v96 (F := Ideal) (ix4 R 0 kr 0)).toInt.toNat = firstRow R.val + kr.val + 7 - R.val := by
  decide +kernel

theorem rel_col : ∀ c kc : Fin 64, (val_main_v101 (F := Ideal) (ix4 0 c 0 kc)).toInt.toNat = min (kc.val + 15 - c.val) 30 := by
  decide +kernel

theorem mask_at : ∀ c kc : Fin 64, val_main_v76 (F := Ideal) (ix2 c kc) = if sees c.val kc.val then 1#1 else 0#1 := by
  decide +kernel

end Cert.RefRead

end
-- ==== Proof.RefGather.lean ====
/- What the reference's gathers read: rows of the window of a grid row, and entries of the bias table. -/
module

public import proofs.«01_k».proof.Proof.RefWords

@[expose] public section

set_option maxRecDepth 65536
set_option maxHeartbeats 2000000

noncomputable section

namespace Cert.RefRead

open Cert.ReferenceIdeal Cert.ReferenceIdeal.Gen Cert.ReferenceIdeal.Read Cert.Block Idealize.ShloMosaic

/-- Row `kr` of the window of grid row `R`. -/
def winRow (R : Fin 32) (kr : Fin 8) : Fin 32 := ⟨firstRow R.val + kr.val, by unfold firstRow; omega⟩

/-- A gather of whole grid rows, by a word for each. -/
theorem gather_rows (x : S32x32x64x8x64.Idx → EReal) (idx : IVec S32x8x1 32) (b R : Fin 32) (kr : Fin 8) (kc : Fin 64) (h : Fin 8) (d : Fin 64)
    (hi : (idx (ix3 R kr 0)).toInt.toNat = firstRow R.val + kr.val) :
    Host.gather gather_S32x32x64x8x64_S32x8x1_S32x32x8x64x8x64_0345_1_n_n_1_2_32164864 x idx (ix6 b R kr kc h d) = x (ix5 b (winRow R kr) kc h d) := by
  unfold Host.gather
  refine congrArg x (funext fun a => Fin.ext ?_)
  show GatherDims.start _ (ix6 b R kr kc h d) idx a + GatherDims.batchCoord _ (ix6 b R kr kc h d) a + GatherDims.offCoord _ (ix6 b R kr kc h d) a = _
  rw [GatherDims.batchCoord_eq_zero _ _ _ (by exact List.not_mem_nil)]
  match a with
  | ⟨0, _⟩ =>
    unfold GatherDims.start GatherDims.offCoord
    rw [dif_neg (by decide +revert), dif_pos (by decide +revert)]
    show 0 + 0 + b.val = b.val
    omega
  | ⟨1, _⟩ =>
    unfold GatherDims.start GatherDims.offCoord
    rw [dif_pos (by decide +revert), dif_neg (by decide +revert)]
    refine Eq.trans (congrArg (fun z => min (idx z).toInt.toNat 31 + 0 + 0) (?_ : _ = ix3 R kr 0)) ?_
    · funext q
      match q with
      | ⟨0, _⟩ => rfl
      | ⟨1, _⟩ => rfl
      | ⟨2, _⟩ => rfl
    · show min (idx (ix3 R kr 0)).toInt.toNat 31 + 0 + 0 = firstRow R.val + kr.val
      rw [hi]
      unfold firstRow
      omega
  | ⟨2, _⟩ =>
    unfold GatherDims.start GatherDims.offCoord
    rw [dif_neg (by decide +revert), dif_pos (by decide +revert)]
    show 0 + 0 + kc.val = kc.val
    omega
  | ⟨3, _⟩ =>
    unfold GatherDims.start GatherDims.offCoord
    rw [dif_neg (by decide +revert), dif_pos (by decide +revert)]
    show 0 + 0 + h.val = h.val
    omega
  | ⟨4, _⟩ =>
    unfold GatherDims.start GatherDims.offCoord
    rw [dif_neg (by decide +revert), dif_pos (by decide +revert)]
    show 0 + 0 + d.val = d.val
    omega

theorem v52_at (x1 : S32x2048x512.Idx → EReal) (b R : Fin 32) (kr : Fin 8) (kc : Fin 64) (h : Fin 8) (d : Fin 64) :
    val_main_v52 (F := Ideal) x1 (ix6 b R kr kc h d) = val_main_v34 (F := Ideal) x1 (ix5 b (winRow R kr) kc h d) :=
  gather_rows _ _ b R kr kc h d (key_row R kr)

theorem v59_at (x2 : S32x2048x512.Idx → EReal) (b R : Fin 32) (kr : Fin 8) (kc : Fin 64) (h : Fin 8) (d : Fin 64) :
    val_main_v59 (F := Ideal) x2 (ix6 b R kr kc h d) = val_main_v35 (F := Ideal) x2 (ix5 b (winRow R kr) kc h d) :=
  gather_rows _ _ b R kr kc h d (value_row R kr)

/-- The row of the bias table for row `kr` of the window of grid row `R`. -/
def biasRowOf (R : Fin 32) (kr : Fin 8) : Fin 15 := ⟨firstRow R.val + kr.val + 7 - R.val, by unfold firstRow; omega⟩

/-- The pair of words for the bias table. -/
theorem pair_row (R : Fin 32) (c : Fin 64) (kr : Fin 8) (kc : Fin 64) :
    val_main_v106 (F := Ideal) (ix5 R c kr kc (0 : Fin 2)) = val_main_v96 (F := Ideal) (ix4 R 0 kr 0) := by
  unfold val_main_v106
  pointwise []
  rfl

theorem pair_col (R : Fin 32) (c : Fin 64) (kr : Fin 8) (kc : Fin 64) :
    val_main_v106 (F := Ideal) (ix5 R c kr kc (1 : Fin 2)) = val_main_v101 (F := Ideal) (ix4 0 c 0 kc) := by
  unfold val_main_v106
  pointwise []
  rfl

theorem v107_at (x5 : S8x15x31.Idx → EReal) (h : Fin 8) (R : Fin 32) (c : Fin 64) (kr : Fin 8) (kc : Fin 64) :
    val_main_v107 (F := Ideal) x5 (ix5 h R c kr kc) = x5 (ix3 h (biasRowOf R kr) (relCol c.val kc.val)) := by
  unfold val_main_v107 Host.gather
  refine congrArg x5 (funext fun a => Fin.ext ?_)
  show GatherDims.start _ (ix5 h R c kr kc) (val_main_v106 (F := Ideal)) a + GatherDims.batchCoord _ (ix5 h R c kr kc) a + GatherDims.offCoord _ (ix5 h R c kr kc) a = _
  rw [GatherDims.batchCoord_eq_zero _ _ _ (by exact List.not_mem_nil)]
  match a with
  | ⟨0, _⟩ =>
    unfold GatherDims.start GatherDims.offCoord
    rw [dif_neg (by decide +revert), dif_pos (by decide +revert)]
    show 0 + 0 + h.val = h.val
    omega
  | ⟨1, _⟩ =>
    unfold GatherDims.start GatherDims.offCoord
    rw [dif_pos (by decide +revert), dif_neg (by decide +revert)]
    refine Eq.trans (congrArg (fun z => min (val_main_v106 (F := Ideal) z).toInt.toNat 14 + 0 + 0) (?_ : _ = ix5 R c kr kc (0 : Fin 2))) ?_
    · funext q
      match q with
      | ⟨0, _⟩ => rfl
      | ⟨1, _⟩ => rfl
      | ⟨2, _⟩ => rfl
      | ⟨3, _⟩ => rfl
      | ⟨4, _⟩ => rfl
    · show min (val_main_v106 (F := Ideal) (ix5 R c kr kc (0 : Fin 2))).toInt.toNat 14 + 0 + 0 = firstRow R.val + kr.val + 7 - R.val
      rw [pair_row, rel_row]
      unfold firstRow
      omega
  | ⟨2, _⟩ =>
    unfold GatherDims.start GatherDims.offCoord
    rw [dif_pos (by decide +revert), dif_neg (by decide +revert)]
    refine Eq.trans (congrArg (fun z => min (val_main_v106 (F := Ideal) z).toInt.toNat 30 + 0 + 0) (?_ : _ = ix5 R c kr kc (1 : Fin 2))) ?_
    · funext q
      match q with
      | ⟨0, _⟩ => rfl
      | ⟨1, _⟩ => rfl
      | ⟨2, _⟩ => rfl
      | ⟨3, _⟩ => rfl
      | ⟨4, _⟩ => rfl
    · show min (val_main_v106 (F := Ideal) (ix5 R c kr kc (1 : Fin 2))).toInt.toNat 30 + 0 + 0 = min (kc.val + 15 - c.val) 30
      rw [pair_col, rel_col]
      omega

end Cert.RefRead

end
-- ==== Proof.RefScore.lean ====
/- The reference's scores: the row of a query over its window and the meta keys is the layer's (`row_at`). -/
module

public import proofs.«01_k».proof.Proof.RefGather

@[expose] public section

set_option maxRecDepth 65536
set_option maxHeartbeats 2000000

noncomputable section

namespace Cert.RefRead

open Cert.ReferenceIdeal Cert.ReferenceIdeal.Gen Cert.ReferenceIdeal.Read Cert.Block Idealize.ShloMosaic

/-- The token at row `R` and column `c` of the grid. -/
def gridTok (R : Fin 32) (c : Fin 64) : Fin 2048 := ⟨64 * R.val + c.val, by omega⟩

/-- Column `d` of head `h`. -/
def headCol (h : Fin 8) (d : Fin 64) : Fin 512 := ⟨64 * h.val + d.val, by omega⟩

theorem split_at (X : S32x2048x512.Idx → EReal) (b R : Fin 32) (c : Fin 64) (h : Fin 8) (d : Fin 64) :
    val_main_v33 (F := Ideal) X (ix5 b R c h d) = X (ix3 b (gridTok R c) (headCol h d)) := by
  unfold val_main_v33 val_main_v28
  pointwise []
  exact congrArg₂ (fun t a => X (ix3 b t a)) (Fin.ext (by show R.val * 64 + c.val = 64 * R.val + c.val; omega))
    (Fin.ext (by show h.val * 64 + d.val = 64 * h.val + d.val; omega))

/-- Entry `d` of head `h` of a meta row. -/
theorem split_meta (X : S16x512.Idx → EReal) (j : Fin 16) (h : Fin 8) (d : Fin 64) :
    val_main_v31 (F := Ideal) X (ix3 j h d) = X (ix2 j (headCol h d)) := by
  unfold val_main_v31
  pointwise []
  exact congrArg (fun a => X (ix2 j a)) (Fin.ext (by show h.val * 64 + d.val = 64 * h.val + d.val; omega))

theorem bot_word : Ideal.ofBits FTy.f32 4286578688#32 = ⊥ := by
  simp [Ideal.ofBits, Ideal.ieee]

theorem product_at (x0 x1 : S32x2048x512.Idx → EReal) (b : Fin 32) (h : Fin 8) (R : Fin 32) (c : Fin 64) (kr : Fin 8) (kc : Fin 64) :
    val_main_v108 (F := Ideal) x0 x1 (ix6 b h R c kr kc)
      = ∑ d : Fin 64, x0 (ix3 b (gridTok R c) (headCol h d)) * x1 (ix3 b (gridTok (winRow R kr) kc) (headCol h d)) := by
  rw [val_main_v108_apply]
  refine Finset.sum_congr rfl fun d _ => ?_
  have e1 : lidx_main_v108 (ix6 b h R c kr kc) d = ix5 b R c h d := funext fun a => match a with
    | ⟨0, _⟩ => rfl
    | ⟨1, _⟩ => rfl
    | ⟨2, _⟩ => rfl
    | ⟨3, _⟩ => rfl
    | ⟨4, _⟩ => rfl
  have e2 : ridx_main_v108 (ix6 b h R c kr kc) d = ix6 b R kr kc h d := funext fun a => match a with
    | ⟨0, _⟩ => rfl
    | ⟨1, _⟩ => rfl
    | ⟨2, _⟩ => rfl
    | ⟨3, _⟩ => rfl
    | ⟨4, _⟩ => rfl
    | ⟨5, _⟩ => rfl
  rw [e1, e2, v52_at]
  exact congrArg₂ (· * ·) (split_at x0 b R c h d) (split_at x1 b (winRow R kr) kc h d)

theorem window_at (x0 x1 : S32x2048x512.Idx → EReal) (x5 : S8x15x31.Idx → EReal) (b : Fin 32) (h : Fin 8) (R : Fin 32) (c : Fin 64) (kr : Fin 8) (kc : Fin 64) :
    val_main_v115 (F := Ideal) x0 x1 x5 (ix6 b h R c kr kc)
      = if sees c.val kc.val then
          (∑ d : Fin 64, x0 (ix3 b (gridTok R c) (headCol h d)) * x1 (ix3 b (gridTok (winRow R kr) kc) (headCol h d))) * eighth
            + x5 (ix3 h (biasRowOf R kr) (relCol c.val kc.val))
        else ⊥ := by
  have e1 : val_main_call4_v1 (F := Ideal) (ix6 b h R c kr kc) = if sees c.val kc.val then 1#1 else 0#1 := by
    rw [val_main_call4_v1_apply, val_main_v114_apply, ← mask_at]
    refine congrArg (val_main_v76 (F := Ideal)) (funext fun a => match a with
      | ⟨0, _⟩ => rfl
      | ⟨1, _⟩ => rfl)
  have e2 : val_main_v112 (F := Ideal) x5 (ix6 b h R c kr kc) = x5 (ix3 h (biasRowOf R kr) (relCol c.val kc.val)) := by
    have e : idx_main_v111 (idx_main_v112 (ix6 b h R c kr kc)) = ix5 h R c kr kc := funext fun a => match a with
      | ⟨0, _⟩ => rfl
      | ⟨1, _⟩ => rfl
      | ⟨2, _⟩ => rfl
      | ⟨3, _⟩ => rfl
      | ⟨4, _⟩ => rfl
    rw [val_main_v112_apply, val_main_v111_apply, e, v107_at]
  have e3 : val_main_call4_v2 (F := Ideal) (ix6 b h R c kr kc) = (⊥ : EReal) := by
    rw [val_main_call4_v2_apply]
    exact bot_word
  have e4 : val_main_v109 (F := Ideal) (ix6 b h R c kr kc) = eighth := by
    rw [val_main_v109_apply]
    rfl
  rw [val_main_v115_apply, val_main_v113_apply, val_main_v110_apply, e1, e2, e3, e4, product_at]
  by_cases hs : sees c.val kc.val
  · rw [if_pos hs, if_pos hs]; rfl
  · rw [if_neg hs, if_neg hs]; rfl

theorem meta_at (x0 : S32x2048x512.Idx → EReal) (x3 : S16x512.Idx → EReal) (b : Fin 32) (h : Fin 8) (R : Fin 32) (c : Fin 64) (j : Fin 16) :
    val_main_v119 (F := Ideal) x0 x3 (ix5 b h R c j)
      = (∑ d : Fin 64, x0 (ix3 b (gridTok R c) (headCol h d)) * x3 (ix2 j (headCol h d))) * eighth := by
  rw [val_main_v119_apply, val_main_v117_apply, val_main_v118_apply, val_main_v116_apply]
  refine congrArg (· * eighth) (Finset.sum_congr rfl fun d _ => ?_)
  rw [mul_comm]
  exact congrArg₂ (· * ·) (Eq.trans (congrArg (val_main_v33 (F := Ideal) x0) (funext fun a => match a with
      | ⟨0, _⟩ => rfl
      | ⟨1, _⟩ => rfl
      | ⟨2, _⟩ => rfl
      | ⟨3, _⟩ => rfl
      | ⟨4, _⟩ => rfl)) (split_at x0 b R c h d)) (Eq.trans (congrArg (val_main_v31 (F := Ideal) x3) (funext fun a => match a with
      | ⟨0, _⟩ => rfl
      | ⟨1, _⟩ => rfl
      | ⟨2, _⟩ => rfl)) (split_meta x3 j h d))

/-- The window's scores in one row. -/
theorem v120_at (x0 x1 : S32x2048x512.Idx → EReal) (x5 : S8x15x31.Idx → EReal) (b : Fin 32) (h : Fin 8) (R : Fin 32) (c : Fin 64) (n : Fin 512) :
    val_main_v120 (F := Ideal) x0 x1 x5 (ix5 b h R c n) = val_main_v115 (F := Ideal) x0 x1 x5 (ix6 b h R c ⟨n.val / 64, by omega⟩ ⟨n.val % 64, by omega⟩) := by
  unfold val_main_v120
  generalize val_main_v115 (F := Ideal) x0 x1 x5 = y
  pointwise []

theorem v121_at (x0 x1 : S32x2048x512.Idx → EReal) (x3 : S16x512.Idx → EReal) (x5 : S8x15x31.Idx → EReal) (b : Fin 32) (h : Fin 8) (R : Fin 32) (c : Fin 64) (i : Fin 528) :
    val_main_v121 (F := Ideal) x0 x1 x3 x5 (ix5 b h R c i) = Fin.append (m := 512) (n := 16) (fun n => val_main_v120 (F := Ideal) x0 x1 x5 (ix5 b h R c n))
      (fun j => val_main_v119 (F := Ideal) x0 x3 (ix5 b h R c j)) i := by
  unfold val_main_v121
  generalize val_main_v120 (F := Ideal) x0 x1 x5 = y
  generalize val_main_v119 (F := Ideal) x0 x3 = z
  pointwise []
  refine Fin.addCases (m := 512) (n := 16) (fun n => ?_) (fun j => ?_) i
  · rw [Fin.append_left, dif_pos (show (Fin.castAdd 16 n).val < 512 from n.isLt)]
    rfl
  · rw [Fin.append_right, dif_neg (show ¬ (Fin.natAdd 512 j).val < 512 by show ¬ (512 + j.val < 512); omega)]
    exact congrArg (fun a => z (ix5 b h R c a)) (Fin.ext (by show 512 + j.val - 512 = j.val; omega))

theorem v122_at (x0 x1 : S32x2048x512.Idx → EReal) (x3 : S16x512.Idx → EReal) (x5 : S8x15x31.Idx → EReal) (b : Fin 32) (h : Fin 8) (R : Fin 32) (c : Fin 64) :
    val_main_v122 (F := Ideal) x0 x1 x3 x5 (ix4 b h R c) = Finset.univ.sup fun i : Fin 528 => val_main_v121 (F := Ideal) x0 x1 x3 x5 (ix5 b h R c i) := by
  unfold val_main_v122
  generalize val_main_v121 (F := Ideal) x0 x1 x3 x5 = y
  unfold val_main_cst_25
  pointwise []
  rw [bot_word]
  rfl

/-- The row of scores of the token at row `R` and column `c` of the grid, in head `h`, is the layer's. -/
theorem row_at (A : Args) (b : Fin 32) (h : Fin 8) (R : Fin 32) (c d : Fin 64) (i : Fin 528) :
    val_main_v121 (F := Ideal) A.q A.k A.km A.rpb (ix5 b h R c i)
      = Fin.append (score A b (gridTok R c) (headCol h d)) (metaScore A b (gridTok R c) (headCol h d)) i := by
  have hR := R.isLt
  have hc := c.isLt
  have hh := h.isLt
  have hd := d.isLt
  have eR : rowAt (gridTok R c) = R := Fin.ext (by show (64 * R.val + c.val) / 64 = R.val; omega)
  have ec : (gridTok R c).val % 64 = c.val := by show (64 * R.val + c.val) % 64 = c.val; omega
  have eh : (⟨(headCol h d).val / 64, by omega⟩ : Fin 8) = h := Fin.ext (by show (64 * h.val + d.val) / 64 = h.val; omega)
  have el : ∀ l, lane512 (headCol h d) l = headCol h l := fun l => Fin.ext (by show 64 * ((64 * h.val + d.val) / 64) + l.val = 64 * h.val + l.val; omega)
  rw [v121_at]
  refine Fin.addCases (m := 512) (n := 16) (fun n => ?_) (fun j => ?_) i
  · rw [Fin.append_left, Fin.append_left, v120_at, window_at, score, eR, ec, eh]
    simp only [el]
    have en : gridTok (winRow R ⟨n.val / 64, by omega⟩) ⟨n.val % 64, by omega⟩ = keyTok R n := Fin.ext (by
      show 64 * (firstRow R.val + n.val / 64) + n.val % 64 = 64 * firstRow R.val + n.val; omega)
    rw [en]
    rfl
  · rw [Fin.append_right, Fin.append_right, meta_at, metaScore]
    simp only [el]

end Cert.RefRead

end
-- ==== Proof.RefAttend.lean ====
/- The reference's attention: its normalised weights over the scores, applied to the window's values and the meta values, are
   the layer's (`attended_at`). -/
module

public import proofs.«01_k».proof.Proof.RefScore

@[expose] public section

set_option maxRecDepth 65536
set_option maxHeartbeats 2000000

noncomputable section

namespace Cert.RefRead

open Cert.ReferenceIdeal Cert.ReferenceIdeal.Gen Cert.ReferenceIdeal.Read Cert.Block Idealize.ShloMosaic

variable (x0 x1 x2 : S32x2048x512.Idx → EReal) (x3 x4 : S16x512.Idx → EReal) (x5 : S8x15x31.Idx → EReal)

/-- A normalised weight. -/
theorem weight_at (b : Fin 32) (h : Fin 8) (R : Fin 32) (c : Fin 64) (i : Fin 528) :
    val_main_v132 (F := Ideal) x0 x1 x3 x5 (ix5 b h R c i)
      = Ideal.div (Ideal.exp (val_main_v121 (F := Ideal) x0 x1 x3 x5 (ix5 b h R c i)
            - max ⊥ (Finset.univ.sup fun k : Fin 528 => val_main_v121 (F := Ideal) x0 x1 x3 x5 (ix5 b h R c k))))
          (0 + ∑ j : Fin 528, Ideal.exp (val_main_v121 (F := Ideal) x0 x1 x3 x5 (ix5 b h R c j)
            - max ⊥ (Finset.univ.sup fun k : Fin 528 => val_main_v121 (F := Ideal) x0 x1 x3 x5 (ix5 b h R c k)))) := by
  have top : ∀ i, val_main_v126 (F := Ideal) x0 x1 x3 x5 (ix5 b h R c i)
      = max ⊥ (Finset.univ.sup fun k : Fin 528 => val_main_v121 (F := Ideal) x0 x1 x3 x5 (ix5 b h R c k)) := fun i => by
    have e : idx_main_v125 (idx_main_v126 (ix5 b h R c i)) = ix4 b h R c := funext fun a => match a with
      | ⟨0, _⟩ => rfl
      | ⟨1, _⟩ => rfl
      | ⟨2, _⟩ => rfl
      | ⟨3, _⟩ => rfl
    rw [val_main_v126_apply, val_main_v125_apply, e, val_main_v124_apply, v122_at, val_main_v123_apply]
    exact congrArg (max · _) bot_word
  have ex : ∀ i, val_main_v128 (F := Ideal) x0 x1 x3 x5 (ix5 b h R c i)
      = Ideal.exp (val_main_v121 (F := Ideal) x0 x1 x3 x5 (ix5 b h R c i)
            - max ⊥ (Finset.univ.sup fun k : Fin 528 => val_main_v121 (F := Ideal) x0 x1 x3 x5 (ix5 b h R c k))) := fun i => by
    rw [val_main_v128_apply, val_main_v127_apply, top]
    rfl
  have tot : val_main_v131 (F := Ideal) x0 x1 x3 x5 (ix5 b h R c i)
      = 0 + ∑ j : Fin 528, val_main_v128 (F := Ideal) x0 x1 x3 x5 (ix5 b h R c j) := by
    rw [val_main_v131_apply, val_main_v130_apply, val_main_v129_apply]
    refine congrArg₂ (· + ·) ?_ (Finset.sum_congr rfl fun k _ => congrArg (val_main_v128 (F := Ideal) x0 x1 x3 x5) (funext fun a => match a with
      | ⟨0, _⟩ => rfl
      | ⟨1, _⟩ => rfl
      | ⟨2, _⟩ => rfl
      | ⟨3, _⟩ => rfl
      | ⟨4, _⟩ => rfl))
    show Ideal.ofBits FTy.f32 0#32 = 0
    simp [Ideal.ofBits, Ideal.ieee]
  rw [val_main_v132_apply, tot, ex]
  simp only [ex]
  rfl

/-- The window's weights over its rows and columns. -/
theorem v134_at (b : Fin 32) (h : Fin 8) (R : Fin 32) (c : Fin 64) (kr : Fin 8) (kc : Fin 64) :
    val_main_v134 (F := Ideal) x0 x1 x3 x5 (ix6 b h R c kr kc)
      = val_main_v132 (F := Ideal) x0 x1 x3 x5 (ix5 b h R c ⟨64 * kr.val + kc.val, by omega⟩) := by
  unfold val_main_v134 val_main_v133
  generalize val_main_v132 (F := Ideal) x0 x1 x3 x5 = y
  pointwise []
  exact congrArg (fun a => y (ix5 b h R c a)) (Fin.ext (by show kr.val * 64 + kc.val = 64 * kr.val + kc.val; omega))

/-- The weighted window values, summed over rows and columns of the window. -/
theorem v136_at (b R : Fin 32) (h : Fin 8) (d c : Fin 64) :
    val_main_v136 (F := Ideal) x0 x1 x2 x3 x5 (ix5 b R h d c)
      = ∑ kr : Fin 8, ∑ kc : Fin 64, val_main_v59 (F := Ideal) x2 (ix6 b R kr kc h d) * val_main_v134 (F := Ideal) x0 x1 x3 x5 (ix6 b h R c kr kc) := by
  unfold val_main_v136
  generalize val_main_v59 (F := Ideal) x2 = y
  generalize val_main_v134 (F := Ideal) x0 x1 x3 x5 = z
  pointwise []

theorem v138_at (b R : Fin 32) (h : Fin 8) (d c : Fin 64) :
    val_main_v138 (F := Ideal) x0 x1 x3 x4 x5 (ix5 h d b R c)
      = ∑ j : Fin 16, val_main_v135 (F := Ideal) x0 x1 x3 x5 (ix5 b h R c j) * x4 (ix2 j (headCol h d)) := by
  rw [val_main_v138_apply]
  refine Finset.sum_congr rfl fun j _ => ?_
  rw [mul_comm]
  have e1 : lidx_main_v138 (ix5 h d b R c) j = ix3 j h d := funext fun a => match a with
      | ⟨0, _⟩ => rfl
      | ⟨1, _⟩ => rfl
      | ⟨2, _⟩ => rfl
  have e2 : ridx_main_v138 (ix5 h d b R c) j = ix5 b h R c j := funext fun a => match a with
      | ⟨0, _⟩ => rfl
      | ⟨1, _⟩ => rfl
      | ⟨2, _⟩ => rfl
      | ⟨3, _⟩ => rfl
      | ⟨4, _⟩ => rfl
  rw [e1, e2]
  exact congrArg (_ * ·) (split_meta x4 j h d)

theorem v135_at (b : Fin 32) (h : Fin 8) (R : Fin 32) (c : Fin 64) (j : Fin 16) :
    val_main_v135 (F := Ideal) x0 x1 x3 x5 (ix5 b h R c j) = val_main_v132 (F := Ideal) x0 x1 x3 x5 (ix5 b h R c (Fin.natAdd 512 j)) := by
  rw [val_main_v135_apply]
  exact congrArg (val_main_v132 (F := Ideal) x0 x1 x3 x5) (funext fun a => match a with
      | ⟨0, _⟩ => rfl
      | ⟨1, _⟩ => rfl
      | ⟨2, _⟩ => rfl
      | ⟨3, _⟩ => rfl
      | ⟨4, _⟩ => Fin.ext (by show 512 + j.val = 512 + j.val; rfl))

theorem v140_at (b R : Fin 32) (h : Fin 8) (d c : Fin 64) :
    val_main_v140 (F := Ideal) x0 x1 x2 x3 x4 x5 (ix5 b R c h d)
      = (∑ kr : Fin 8, ∑ kc : Fin 64, val_main_v132 (F := Ideal) x0 x1 x3 x5 (ix5 b h R c ⟨64 * kr.val + kc.val, by omega⟩) * x2 (ix3 b (gridTok (winRow R kr) kc) (headCol h d)))
        + ∑ j : Fin 16, val_main_v132 (F := Ideal) x0 x1 x3 x5 (ix5 b h R c (Fin.natAdd 512 j)) * x4 (ix2 j (headCol h d)) := by
  have e1 : val_main_v137 (F := Ideal) x0 x1 x2 x3 x5 (ix5 b R c h d) = val_main_v136 (F := Ideal) x0 x1 x2 x3 x5 (ix5 b R h d c) := by
    rw [val_main_v137_apply]
    exact congrArg (val_main_v136 (F := Ideal) x0 x1 x2 x3 x5) (funext fun a => match a with
      | ⟨0, _⟩ => rfl
      | ⟨1, _⟩ => rfl
      | ⟨2, _⟩ => rfl
      | ⟨3, _⟩ => rfl
      | ⟨4, _⟩ => rfl)
  have e2 : val_main_v139 (F := Ideal) x0 x1 x3 x4 x5 (ix5 b R c h d) = val_main_v138 (F := Ideal) x0 x1 x3 x4 x5 (ix5 h d b R c) := by
    rw [val_main_v139_apply]
    exact congrArg (val_main_v138 (F := Ideal) x0 x1 x3 x4 x5) (funext fun a => match a with
      | ⟨0, _⟩ => rfl
      | ⟨1, _⟩ => rfl
      | ⟨2, _⟩ => rfl
      | ⟨3, _⟩ => rfl
      | ⟨4, _⟩ => rfl)
  rw [val_main_v140_apply, e1, e2, v136_at, v138_at]
  refine congrArg₂ (· + ·) (Finset.sum_congr rfl fun kr _ => Finset.sum_congr rfl fun kc _ => ?_) (Finset.sum_congr rfl fun j _ => ?_)
  · rw [v59_at, v134_at, mul_comm]
    exact congrArg (_ * ·) (split_at x2 b (winRow R kr) kc h d)
  · rw [v135_at]

/-- The sum over the window's rows and columns as one sum over its keys. -/
theorem sum_window (f : Fin 512 → EReal) : ∑ kr : Fin 8, ∑ kc : Fin 64, f ⟨64 * kr.val + kc.val, by omega⟩ = ∑ n : Fin 512, f n := by
  rw [← Fintype.sum_prod_type']
  refine Fintype.sum_equiv (finProdFinEquiv (m := 8) (n := 64)) _ _ fun p => congrArg f (Fin.ext ?_)
  show 64 * p.1.val + p.2.val = p.2.val + 64 * p.1.val
  omega

theorem attended_at (A : Args) (b R : Fin 32) (h : Fin 8) (d c : Fin 64) :
    val_main_v140 (F := Ideal) A.q A.k A.v A.km A.vm A.rpb (ix5 b R c h d) = attended A b (gridTok R c) (headCol h d) := by
  have hR := R.isLt
  have hc := c.isLt
  have eR : rowAt (gridTok R c) = R := Fin.ext (by show (64 * R.val + c.val) / 64 = R.val; omega)
  rw [v140_at, attended, Softmax.plain, eR]
  have hw : ∀ i : Fin 528, val_main_v132 (F := Ideal) A.q A.k A.km A.rpb (ix5 b h R c i) = _ := fun i => weight_at A.q A.k A.km A.rpb b h R c i
  simp only [hw, row_at A b h R c d]
  refine congrArg (· + _) ?_
  refine Eq.trans (Finset.sum_congr rfl fun kr _ => Finset.sum_congr rfl fun kc _ => ?_) (sum_window _)
  refine congrArg₂ (· * ·) rfl (congrArg (fun t => A.v (ix3 b t (headCol h d))) (Fin.ext ?_))
  show 64 * (firstRow R.val + kr.val) + kc.val = 64 * firstRow R.val + (64 * kr.val + kc.val)
  omega

end Cert.RefRead

end
-- ==== Proof.RefLayer.lean ====
/- The reference computes the layer: its mLSTM branch, its attention branch and the projection added to the stream
   (`reference_at`). -/
module

public import proofs.«01_k».proof.Proof.RefAttend

@[expose] public section

set_option maxRecDepth 65536
set_option maxHeartbeats 2000000

noncomputable section

namespace Cert.RefRead

open Cert.ReferenceIdeal Cert.ReferenceIdeal.Gen Cert.ReferenceIdeal.Read Cert.Block Idealize.ShloMosaic

theorem one_word : Ideal.ofBits FTy.f32 0x3F800000#32 = 1 := by
  simp [Ideal.ofBits, Ideal.ieee]
  rw [← EReal.coe_mul, ← EReal.coe_one]
  norm_num

theorem zero_word : Ideal.ofBits FTy.f32 0#32 = 0 := by
  simp [Ideal.ofBits, Ideal.ieee]

theorem silu_m (X : S32x2048x512.Idx → EReal) (i : S32x2048x512.Idx) : val_main_v26 (F := Ideal) X i = silu (X i) := by
  rw [val_main_v26_apply, val_main_call0_v5_apply, val_main_call0_v4_apply, val_main_call0_v3_apply, val_main_call0_v2_apply]
  show X i * Ideal.div (Ideal.ofBits FTy.f32 0x3F800000#32) (Ideal.ofBits FTy.f32 0x3F800000#32 + Ideal.exp (- X i)) = _
  rw [one_word, ← zero_sub]
  rfl

theorem silu_a (X : S32x2048x512.Idx → EReal) (i : S32x2048x512.Idx) : val_main_v142 (F := Ideal) X i = silu (X i) := by
  rw [val_main_v142_apply, val_main_call5_v5_apply, val_main_call5_v4_apply, val_main_call5_v3_apply, val_main_call5_v2_apply]
  show X i * Ideal.div (Ideal.ofBits FTy.f32 0x3F800000#32) (Ideal.ofBits FTy.f32 0x3F800000#32 + Ideal.exp (- X i)) = _
  rw [one_word, ← zero_sub]
  rfl

/-- Column `l` of mLSTM head `h`. -/
def mCol (h : Fin 4) (l : Fin 128) : Fin 512 := ⟨128 * h.val + l.val, by omega⟩

theorem split_m (X : S32x2048x512.Idx → EReal) (b : Fin 32) (T : Fin 2048) (h : Fin 4) (l : Fin 128) :
    val_main_v0 (F := Ideal) X (ix4 b T h l) = X (ix3 b T (mCol h l)) := by
  unfold val_main_v0
  pointwise []
  exact congrArg (fun a => X (ix3 b T a)) (Fin.ext (by show h.val * 128 + l.val = 128 * h.val + l.val; omega))

theorem gate_at (x7 x8 x9 : S32x2048x512.Idx → EReal) (b : Fin 32) (T : Fin 2048) (h : Fin 4) (l : Fin 128) :
    val_main_v10 (F := Ideal) x7 x8 x9 (ix4 b T h l) = gated (x9 (ix3 b T (mCol h l))) (x7 (ix3 b T (mCol h l))) (x8 (ix3 b T (mCol h l))) := by
  have e7 : val_main_v7 (F := Ideal) x7 (ix4 b T h l) = x7 (ix3 b T (mCol h l)) := split_m x7 b T h l
  have e8 : val_main_v8 (F := Ideal) x8 (ix4 b T h l) = x8 (ix3 b T (mCol h l)) := split_m x8 b T h l
  rw [val_main_v10_apply, val_main_v9_apply, e7, e8, val_main_v6_apply, val_main_v5_apply, val_main_v4_apply, val_main_v3_apply, val_main_v2_apply, val_main_v1_apply, split_m]
  show Ideal.div (Ideal.ofBits FTy.f32 0x3F800000#32) (Ideal.ofBits FTy.f32 0x3F800000#32 + Ideal.exp (- x9 (ix3 b T (mCol h l)))) * _ = _
  rw [one_word, ← zero_sub]
  rfl

theorem normed_at (x7 x8 x9 : S32x2048x512.Idx → EReal) (x12 : S512.Idx → EReal) (b : Fin 32) (T : Fin 2048) (h : Fin 4) (l : Fin 128) :
    val_main_v24 (F := Ideal) x7 x8 x9 x12 (ix4 b T h l)
      = rms (val_main_v10 (F := Ideal) x7 x8 x9 (ix4 b T h l)) (fun k => val_main_v10 (F := Ideal) x7 x8 x9 (ix4 b T h k)) (x12 (ix1 (mCol h l))) := by
  have e1 : val_main_v23 (F := Ideal) x12 (ix4 b T h l) = x12 (ix1 (mCol h l)) := by
    unfold val_main_v23 val_main_v22 val_main_v11
    pointwise []
    exact congrArg (fun a => x12 (ix1 a)) (Fin.ext (by show h.val * 128 + l.val = 128 * h.val + l.val; omega))
  have e2 : val_main_v20 (F := Ideal) x7 x8 x9 (ix4 b T h l)
      = Ideal.rsqrt (Ideal.div (∑ k : Fin 128, val_main_v10 (F := Ideal) x7 x8 x9 (ix4 b T h k) * val_main_v10 (F := Ideal) x7 x8 x9 (ix4 b T h k))
          (Ideal.ofBits .f32 0x43000000#32) + Ideal.ofBits .f32 0x358637BD#32) := by
    have es : val_main_v14 (F := Ideal) x7 x8 x9 (idx_main_v20 (ix4 b T h l))
        = ∑ k : Fin 128, val_main_v10 (F := Ideal) x7 x8 x9 (ix4 b T h k) * val_main_v10 (F := Ideal) x7 x8 x9 (ix4 b T h k) := by
      rw [val_main_v14_apply, val_main_v13_apply]
      refine Eq.trans (congrArg₂ (· + ·) zero_word (Finset.sum_congr rfl fun k _ => (congrArg (val_main_v12 (F := Ideal) x7 x8 x9) (funext fun a => match a with
        | ⟨0, _⟩ => rfl
        | ⟨1, _⟩ => rfl
        | ⟨2, _⟩ => rfl
        | ⟨3, _⟩ => rfl) : _ = val_main_v12 (F := Ideal) x7 x8 x9 (ix4 b T h k)))) ?_
      rw [zero_add]
      rfl
    rw [val_main_v20_apply, val_main_v19_apply, val_main_v18_apply, val_main_v16_apply, es, val_main_v15_apply, val_main_v17_apply]
    rfl
  rw [val_main_v24_apply, val_main_v21_apply, e1, e2]
  rfl

theorem mlstm_at (A : Args) (b : Fin 32) (T : Fin 2048) (a : Fin 512) :
    val_main_v27 (F := Ideal) A.hf A.hb A.o A.zm A.g (ix3 b T a)
      = rms (summed A b T a) (fun l => summed A b T (col a l)) (A.g (ix1 a)) * silu (A.zm (ix3 b T a)) := by
  have ha := a.isLt
  have e : val_main_v25 (F := Ideal) A.hf A.hb A.o A.g (ix3 b T a) = val_main_v24 (F := Ideal) A.hf A.hb A.o A.g (ix4 b T ⟨a.val / 128, by omega⟩ ⟨a.val % 128, by omega⟩) := by
    unfold val_main_v25
    generalize val_main_v24 (F := Ideal) A.hf A.hb A.o A.g = y
    pointwise []
  have ea : mCol ⟨a.val / 128, by omega⟩ ⟨a.val % 128, by omega⟩ = a := Fin.ext (by show 128 * (a.val / 128) + a.val % 128 = a.val; omega)
  rw [val_main_v27_apply, silu_m, e, normed_at, ea]
  simp only [gate_at, ea]
  rfl

theorem attention_at (A : Args) (b : Fin 32) (T : Fin 2048) (a : Fin 512) :
    val_main_v143 (F := Ideal) A.q A.k A.v A.km A.vm A.rpb A.za (ix3 b T a) = attended A b T a * silu (A.za (ix3 b T a)) := by
  have ha := a.isLt
  have hT := T.isLt
  have e : val_main_v141 (F := Ideal) A.q A.k A.v A.km A.vm A.rpb (ix3 b T a)
      = val_main_v140 (F := Ideal) A.q A.k A.v A.km A.vm A.rpb (ix5 b ⟨T.val / 64, by omega⟩ ⟨T.val % 64, by omega⟩ ⟨a.val / 64, by omega⟩ ⟨a.val % 64, by omega⟩) := by
    unfold val_main_v141
    generalize val_main_v140 (F := Ideal) A.q A.k A.v A.km A.vm A.rpb = y
    pointwise []
  have eT : gridTok ⟨T.val / 64, by omega⟩ ⟨T.val % 64, by omega⟩ = T := Fin.ext (by show 64 * (T.val / 64) + T.val % 64 = T.val; omega)
  have ea : headCol ⟨a.val / 64, by omega⟩ ⟨a.val % 64, by omega⟩ = a := Fin.ext (by show 64 * (a.val / 64) + a.val % 64 = a.val; omega)
  rw [val_main_v143_apply, silu_a, e, attended_at, eT, ea]
  rfl

theorem joined_at (A : Args) (b : Fin 32) (T : Fin 2048) (i : Fin 1024) :
    val_main_v144 (F := Ideal) A.q A.k A.v A.km A.vm A.rpb A.za A.hf A.hb A.o A.zm A.g (ix3 b T i) = joined A b T i := by
  unfold val_main_v144
  have em := mlstm_at A b T
  have ea := attention_at A b T
  generalize val_main_v27 (F := Ideal) A.hf A.hb A.o A.zm A.g = y at em ⊢
  generalize val_main_v143 (F := Ideal) A.q A.k A.v A.km A.vm A.rpb A.za = z at ea ⊢
  pointwise []
  unfold joined
  split
  · exact em _
  · exact ea _

/-- The reference's result at token `n` of the flattened tokens. -/
theorem reference_at (A : Args) (n : Fin 65536) (j : Fin 1024) :
    val_main_v147 (F := Ideal) A.q A.k A.v A.km A.vm A.rpb A.za A.hf A.hb A.o A.zm A.x A.g A.w (ix2 n j)
      = layer A ⟨n.val / 2048, by omega⟩ ⟨n.val % 2048, by omega⟩ j := by
  have e : val_main_v147 (F := Ideal) A.q A.k A.v A.km A.vm A.rpb A.za A.hf A.hb A.o A.zm A.x A.g A.w (ix2 n j)
      = val_main_v146 (F := Ideal) A.q A.k A.v A.km A.vm A.rpb A.za A.hf A.hb A.o A.zm A.x A.g A.w (ix3 ⟨n.val / 2048, by omega⟩ ⟨n.val % 2048, by omega⟩ j) := by
    unfold val_main_v147
    generalize val_main_v146 (F := Ideal) A.q A.k A.v A.km A.vm A.rpb A.za A.hf A.hb A.o A.zm A.x A.g A.w = y
    pointwise []
  rw [e, val_main_v146_apply, val_main_v145_apply]
  have el (b : Fin 32) (T : Fin 2048) (i : Fin 1024) : lidx_main_v145 (ix3 b T j) i = ix3 b T i := funext fun a => match a with
    | ⟨0, _⟩ => rfl
    | ⟨1, _⟩ => rfl
    | ⟨2, _⟩ => rfl
  have er (b : Fin 32) (T : Fin 2048) (i : Fin 1024) : ridx_main_v145 (ix3 b T j) i = ix2 i j := funext fun a => match a with
    | ⟨0, _⟩ => rfl
    | ⟨1, _⟩ => rfl
  simp only [el, er, joined_at]
  rfl

end Cert.RefRead

end
-- ==== Proof.Pre.lean ====
/- The precondition, read: where `finite_scores` is one, the queries, the keys, the meta keys and the bias table are reals
   (`finite_of_pre`). -/
module

public import proofs.«01_k».proof.Defs
public import proofs.«01_k».proof.Proof.Layer
public import Idealize.ShloMosaic.Lib.ReduceAll

@[expose] public section

noncomputable section

namespace Cert.Block

open Idealize.ShloMosaic Cert.Pre_finite_scores

theorem pre_facts : Cert.Pre_finite_scores.Facts where
  bcast_S_S32x2048x512 := by decide
  reducesTo_S32x2048x512_S_d0_1_2 := by decide
  h_S_ := by decide
  bcast_S_S16x512 := by decide
  reducesTo_S16x512_S_d0_1 := by decide
  bcast_S_S8x15x31 := by decide
  reducesTo_S8x15x31_S_d0_1_2 := by decide

theorem top_word : Ideal.ofBits FTy.f32 0x7F800000#32 = ⊤ := by
  simp [Ideal.ofBits, Ideal.ieee]

/-- A value of size below infinity is a real. -/
theorem real_of_size (a : EReal) (h : FloatOps.cmpf (F := Ideal) (φ := FTy.f32) .olt (max a (-a)) (Ideal.ofBits FTy.f32 0x7F800000#32) = 1#1) :
    ∃ r : ℝ, a = r := by
  rw [top_word] at h
  have h' : max a (-a) < ⊤ := by
    by_contra hn
    have h0 : FloatOps.cmpf (F := Ideal) (φ := FTy.f32) .olt (max a (-a)) ⊤ = 0#1 := by
      show BitVec.ofBool (decide (max a (-a) < ⊤)) = 0#1
      rw [decide_eq_false hn]
      rfl
    rw [h0] at h
    exact absurd h (by decide)
  induction a with
  | bot => simp at h'
  | top => simp at h'
  | coe r => exact ⟨r, rfl⟩

theorem finite_of_pre (A : Args) (h : @Cert.Pre_finite_scores.fn pre_facts Ideal _ A.q A.k A.v A.km A.vm A.rpb A.za A.hf A.hb A.o A.zm A.x A.g A.w = fun _ => 1#1) :
    Finite A := by
  have h0 := congrFun h (fun a => a.elim0)
  unfold Cert.Pre_finite_scores.fn Cert.Pre_finite_scores.fn_part1 at h0
  obtain ⟨h1, hr⟩ := IntOp.andi_eq_one.mp h0
  obtain ⟨h2, hm⟩ := IntOp.andi_eq_one.mp h1
  obtain ⟨hq, hk⟩ := IntOp.andi_eq_one.mp h2
  exact ⟨fun i => real_of_size _ (Host.reduce_andi_all _ _ _ _ _ hq i), fun i => real_of_size _ (Host.reduce_andi_all _ _ _ _ _ hk i),
    fun i => real_of_size _ (Host.reduce_andi_all _ _ _ _ _ hm i), fun i => real_of_size _ (Host.reduce_andi_all _ _ _ _ _ hr i)⟩

end Cert.Block

end
-- ==== Proof.ProjLayer.lean ====
/- What the projection computes: each token's normalised row times columns of the weights (`product`), and for the attention's
   queries and keys that product normalised by heads (`byHead`). -/
module

public import Idealize.ShloMosaic.Lib.Pointwise

@[expose] public section

noncomputable section

namespace Cert.Proj

open Idealize.ShloMosaic

/-- The arguments the results depend on: tokens, their norm's gain, weights, and the gains of the queries and keys. -/
structure Args where
  x : (⟨3, ![32, 2048, 1024]⟩ : Shape).Idx → EReal
  g : (⟨1, ![1024]⟩ : Shape).Idx → EReal
  w : (⟨2, ![1024, 4624]⟩ : Shape).Idx → EReal
  gq : (⟨1, ![64]⟩ : Shape).Idx → EReal
  gk : (⟨1, ![64]⟩ : Shape).Idx → EReal

/-- The float 64. -/
abbrev sixtyfour : EReal := Ideal.ofBits .f32 0x42800000#32

/-- The float 1/8, by which the queries are scaled. -/
abbrev eighth : EReal := Ideal.ofBits .f32 0x3E000000#32

/-- One entry over the root mean square of its `n`, where `N` is the float `n`, times its gain. -/
def rms {n : ℕ} (N : EReal) (y : EReal) (ys : Fin n → EReal) (g : EReal) : EReal :=
  y * Ideal.rsqrt (Ideal.div (∑ l, ys l * ys l) N + Ideal.ofBits .f32 0x358637BD#32) * g

/-- Feature `k` of a normalised token. -/
def normed (A : Args) (b : Fin 32) (T : Fin 2048) (k : Fin 1024) : EReal :=
  rms (Ideal.ofBits .f32 0x44800000#32) (A.x (ix3 b T k)) (fun j : Fin 1024 => A.x (ix3 b T j)) (A.g (ix1 k))

/-- A token's product with column `n` of the weights. -/
def product (A : Args) (b : Fin 32) (T : Fin 2048) (n : Fin 4624) : EReal :=
  ∑ k : Fin 1024, normed A b T k * A.w (ix2 k n)

/-- The 512 products from column `off` on. -/
def columns (A : Args) (off : Fin 4113) (b : Fin 32) (T : Fin 2048) (a : Fin 512) : EReal :=
  product A b T ⟨off.val + a.val, by omega⟩

/-- Lane `l` of the head that holds lane `a`. -/
def lane (a : Fin 512) (l : Fin 64) : Fin 512 := ⟨64 * (a.val / 64) + l.val, by omega⟩

/-- A lane over the root mean square of its head's lanes, times its gain. -/
def byHead (t : Fin 512 → EReal) (gain : (⟨1, ![64]⟩ : Shape).Idx → EReal) (a : Fin 512) : EReal :=
  rms sixtyfour (t a) (fun l => t (lane a l)) (gain (ix1 ⟨a.val % 64, Nat.mod_lt _ (by norm_num)⟩))

/-- The sequence of row `n` of the flattened tokens. -/
def seqOf (n : Fin 65536) : Fin 32 := ⟨n.val / 2048, by omega⟩

/-- The token of row `n` of the flattened tokens. -/
def tokOf (n : Fin 65536) : Fin 2048 := ⟨n.val % 2048, by omega⟩

/-- A result that is 512 products: the values, the output gates and the two branch gates. -/
def plain (A : Args) (off : Fin 4113) : (⟨2, ![65536, 512]⟩ : Shape).Idx → EReal :=
  fun i => columns A off (seqOf (i 0)) (tokOf (i 0)) (i 1)

/-- The attention's queries. -/
def queries (A : Args) : (⟨2, ![65536, 512]⟩ : Shape).Idx → EReal :=
  fun i => byHead (columns A 2576 (seqOf (i 0)) (tokOf (i 0))) A.gq (i 1) * eighth

/-- The attention's keys. -/
def keys (A : Args) : (⟨2, ![65536, 512]⟩ : Shape).Idx → EReal :=
  fun i => byHead (columns A 3088 (seqOf (i 0)) (tokOf (i 0))) A.gk (i 1)

end Cert.Proj

end
-- ==== Proof.ProjBlock.lean ====
/- The projection call's body read at an index, over the extended reals: the normalised rows (`pay4_apply`), the plain
   products with the weights (`pay16_apply`) and the products normalised by heads (`pay25_apply`, `pay27_apply`). -/
module

public import proofs.«01_k».proof.Proof.Gen.Kernel2Ideal.Skeleton
public import proofs.«01_k».proof.Proof.ProjLayer
public import Idealize.ShloMosaic.Lib.Pointwise

@[expose] public section

set_option maxRecDepth 16384
set_option maxHeartbeats 2000000

noncomputable section

namespace Cert.Proj

open Cert.Kernel2Ideal Cert.Kernel2Ideal.Gen Idealize.ShloMosaic

theorem pay4_apply (g : Vec Ideal S1x1024 .f32) (x : Vec Ideal S512x1024 .f32) (r : Fin 512) (k : Fin 1024) :
    k0_pay4 g x (ix2 r k) = rms (Ideal.ofBits .f32 0x44800000#32) (x (ix2 r k)) (fun j : Fin 1024 => x (ix2 r j)) (g (ix2 0 k)) := by
  pointwise [k0_pay4, k0_pay2]
  rfl

theorem pay16_apply (x : Vec Ideal S512x1024 .bf16) (w : Vec Ideal S1024x512 .bf16) (r a : Fin 512) :
    k0_pay16 x w (ix2 r a) = ∑ k : Fin 1024, x (ix2 r k) * w (ix2 k a) := by
  pointwise [k0_pay16]

theorem pay26_apply (x : Vec Ideal S512x1024 .bf16) (w : Vec Ideal S1024x512 .bf16) (r a : Fin 512) :
    k0_pay26 x w (ix2 r a) = ∑ k : Fin 1024, x (ix2 r k) * w (ix2 k a) := by
  pointwise [k0_pay26]

/-- A product over the root mean square of its head's, as the body computes it: the head's sum of squares is a product with a
    matrix of zeros and ones. -/
def headed (t : Fin 512 → EReal) (bd : Fin 512 → EReal) (a : Fin 512) (g : EReal) : EReal :=
  t a * Ideal.rsqrt ((∑ j, t j * t j * bd j) * Ideal.ofBits .f32 0x3C800000#32 + Ideal.ofBits .f32 0x358637BD#32) * g

theorem pay27_apply (bd : FVec Ideal S512x512 .bf16) (t : FVec Ideal S512x512 .f32) (g : Vec Ideal S1x512 .f32) (r a : Fin 512) :
    k0_pay27 bd t g (ix2 r a) = headed (fun j => t (ix2 r j)) (fun j => bd (ix2 j a)) a (g (ix2 0 a)) := by
  pointwise [k0_pay27]
  rfl

theorem pay25_apply (bd : FVec Ideal S512x512 .bf16) (x : Vec Ideal S512x1024 .bf16) (w : Vec Ideal S1024x512 .bf16) (g : Vec Ideal S1x512 .f32) (r a : Fin 512) :
    k0_pay25 bd x w g (ix2 r a)
      = headed (fun j => ∑ k : Fin 1024, x (ix2 r k) * w (ix2 k j)) (fun j => bd (ix2 j a)) a (g (ix2 0 a)) * Ideal.ofBits .f32 0x3E000000#32 := by
  pointwise [k0_pay25]
  rfl

end Cert.Proj

end
-- ==== Proof.ProjRun.lean ====
/- The run of the projection call's body at any whole buffers (`projRun`): what it stores, and that it ends there. -/
module

public import proofs.«01_k».proof.Proof.Gen.Kernel2Ideal.Frame.Runs

@[expose] public section

set_option maxRecDepth 16384

noncomputable section

namespace Cert.Proj

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores of the projection body, as pieces of each output's buffer (windows 13 to 24) and of the two scratch buffers,
    last first. -/
structure Stores (F : FTy → Type) [FloatOps F] where
  L13 : List (View.Piece (Elt F) S512x512 .bf16)
  L14 : List (View.Piece (Elt F) S512x512 .bf16)
  L15 : List (View.Piece (Elt F) S512x512 .bf16)
  L16 : List (View.Piece (Elt F) S512x512 .bf16)
  L17 : List (View.Piece (Elt F) S512x512 .bf16)
  L18 : List (View.Piece (Elt F) S512x256 .f32)
  L19 : List (View.Piece (Elt F) S16x512 .f32)
  L20 : List (View.Piece (Elt F) S512x512 .bf16)
  L21 : List (View.Piece (Elt F) S512x512 .bf16)
  L22 : List (View.Piece (Elt F) S512x512 .bf16)
  L23 : List (View.Piece (Elt F) S512x512 .bf16)
  L24 : List (View.Piece (Elt F) S1x16x512 .f32)
  LT0 : List (View.Piece (Elt F) S544x1024 .bf16)
  LT1 : List (View.Piece (Elt F) S544x1024 .f32)

set_option maxHeartbeats 20000000 in
/-- The projection body's stores, as pieces of each output's buffer and of the two scratch buffers (last first), with the triple of
    the body: from whole buffers, the inputs' at `x0 … x12` and the others at anything, it ends with the inputs' as they were and
    each other buffer holding its pieces over some contents. -/
noncomputable def projRun (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x4864 .bf16) (harg5 : arg5.IsWhole) (arg6 : Memref sig .tc .vmem S16x1024 .bf16) (harg6 : arg6.IsWhole) (arg7 : Memref sig .tc .vmem S16x1024 .f32) (harg7 : arg7.IsWhole) (arg8 : Memref sig .tc .vmem S1x256 .f32) (harg8 : arg8.IsWhole) (arg9 : Memref sig .tc .vmem S16x128 .f32) (harg9 : arg9.IsWhole) (arg10 : Memref sig .tc .vmem S5x1024 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x256 .f32) (harg19 : arg19.IsWhole) (arg20 : Memref sig .tc .vmem S16x512 .f32) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S1x16x512 .f32) (harg25 : arg25.IsWhole) (arg26 : Memref sig .tc .vmem S544x1024 .bf16) (harg26 : arg26.IsWhole) (arg27 : Memref sig .tc .vmem S544x1024 .f32) (harg27 : arg27.IsWhole)
    (x0 : Vec F S16x1024 .f32) (x1 : Vec F S512x1024 .f32) (x2 : Vec F S16x1024 .f32) (x3 : Vec F S1x1024 .f32) (x4 : Vec F S1024x4864 .bf16) (x5 : Vec F S16x1024 .bf16) (x6 : Vec F S16x1024 .f32) (x7 : Vec F S1x256 .f32) (x8 : Vec F S16x128 .f32) (x9 : Vec F S5x1024 .f32) (x10 : Vec F S1x512 .f32) (x11 : Vec F S1x512 .f32) (x12 : Vec F S512x512 .bf16) :
    { L : Stores F //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L.L13) ∗ (∃ f, arg15.view.loc (c : Thread nD τ) ↦[arg15.view.set]{fullShare} arg15.view.writes (Elt F) f L.L14) ∗ (∃ f, arg16.view.loc (c : Thread nD τ) ↦[arg16.view.set]{fullShare} arg16.view.writes (Elt F) f L.L15) ∗ (∃ f, arg17.view.loc (c : Thread nD τ) ↦[arg17.view.set]{fullShare} arg17.view.writes (Elt F) f L.L16) ∗ (∃ f, arg18.view.loc (c : Thread nD τ) ↦[arg18.view.set]{fullShare} arg18.view.writes (Elt F) f L.L17) ∗ (∃ f, arg19.view.loc (c : Thread nD τ) ↦[arg19.view.set]{fullShare} arg19.view.writes (Elt F) f L.L18) ∗ (∃ f, arg20.view.loc (c : Thread nD τ) ↦[arg20.view.set]{fullShare} arg20.view.writes (Elt F) f L.L19) ∗ (∃ f, arg21.view.loc (c : Thread nD τ) ↦[arg21.view.set]{fullShare} arg21.view.writes (Elt F) f L.L20) ∗ (∃ f, arg22.view.loc (c : Thread nD τ) ↦[arg22.view.set]{fullShare} arg22.view.writes (Elt F) f L.L21) ∗ (∃ f, arg23.view.loc (c : Thread nD τ) ↦[arg23.view.set]{fullShare} arg23.view.writes (Elt F) f L.L22) ∗ (∃ f, arg24.view.loc (c : Thread nD τ) ↦[arg24.view.set]{fullShare} arg24.view.writes (Elt F) f L.L23) ∗ (∃ f, arg25.view.loc (c : Thread nD τ) ↦[arg25.view.set]{fullShare} arg25.view.writes (Elt F) f L.L24) ∗ (∃ f, arg26.view.loc (c : Thread nD τ) ↦[arg26.view.set]{fullShare} arg26.view.writes (Elt F) f L.LT0) ∗ (∃ f, arg27.view.loc (c : Thread nD τ) ↦[arg27.view.set]{fullShare} arg27.view.writes (Elt F) f L.LT1)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨⟨?_, ?_, ?_, ?_, ?_, ?_, ?_, ?_, ?_, ?_, ?_, ?_, ?_, ?_⟩, fun E K => ?run⟩
  case run =>
    dsimp only
    simp only [cc0_in_proj_eq_skeleton]; unfold cc0_in_proj_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [HS0]; · iexists _; iexact HS0
    iexists _; iexact HS1

end Cert.Proj

end
-- ==== Proof.ProjStores.lean ====
/- The projection's stores as values: the scratch's middle 512 rows hold the tile's normalised rows (`tileRows`), and each of the
   seven results is one store of them times columns of the weights (`stores…`). -/
module

public import proofs.«01_k».proof.Proof.ProjBlock
public import proofs.«01_k».proof.Proof.ProjRun

@[expose] public section

set_option maxRecDepth 65536
set_option maxHeartbeats 8000000

noncomputable section

namespace Cert.Proj

open Cert.Kernel2Ideal Cert.Kernel2Ideal.Gen Idealize.ShloMosaic Idealize.ShloMosaic.TcCoe Idealize.ShloMosaic.Tactic

variable {F : FTy → Type} [FloatOps F]

/-- The tile's normalised rows. -/
def tileRows (x1 : Vec F S512x1024 .f32) (x3 : Vec F S1x1024 .f32) : Vec F S512x1024 .bf16 :=
  k0_pay4 (View.ld (Val := Elt F) x3 (Rect.unit (s := S1x1024) ![0, 0] S1x1024.size inb_S1x1024_S1x1024_0_0))
    (View.ld (Val := Elt F) x1 (Rect.unit (s := S512x1024) ![0, 0] S512x1024.size inb_S512x1024_S512x1024_0_0))

/-- 512 columns of the weights. -/
def weightCols (x4 : Vec F S1024x4864 .bf16) (off : Fin 2 → ℕ) (h : ∀ a, off a + S1024x512.size a ≤ S1024x4864.size a) : Vec F S1024x512 .bf16 :=
  View.ld (Val := Elt F) x4 (Rect.unit (s := S1024x4864) off S1024x512.size h)

/-- A store of a whole block. -/
def wholeStore (w : Vec F S512x512 .bf16) : List (View.Piece (Elt F) S512x512 .bf16) :=
  [⟨Rect.unit (s := S512x512) ![0, 0] S512x512.size inb_S512x512_S512x512_0_0, w⟩]

/-- The matrix that adds over heads, and a gain's row, as they are loaded. -/
def headMatrix (x12 : Vec F S512x512 .bf16) : FVec F S512x512 .bf16 :=
  k0_pay10 (View.ld (Val := Elt F) x12 (Rect.unit (s := S512x512) ![0, 0] S512x512.size inb_S512x512_S512x512_0_0))

def gainRow (x : Vec F S1x512 .f32) : Vec F S1x512 .f32 :=
  View.ld (Val := Elt F) x (Rect.unit (s := S1x512) ![0, 0] S1x512.size inb_S1x512_S1x512_0_0)

/-- The scratch's middle rows are read as they were stored: the store after them is of other rows. -/
theorem scratch_rows (s : View sig .tc .vmem S544x1024 .bf16) (a : Vec F S16x1024 .bf16) (b : Vec F S512x1024 .bf16) (L : List (View.Piece (Elt F) S544x1024 .bf16)) :
    s.readCov (Val := Elt F) (⟨Rect.unit (s := S544x1024) ![528, 0] S16x1024.size inb_S544x1024_S16x1024_528_0, a⟩
      :: ⟨Rect.unit (s := S544x1024) ![16, 0] S512x1024.size inb_S544x1024_S512x1024_16_0, b⟩ :: L)
      (Rect.unit (s := S544x1024) ![16, 0] S512x1024.size inb_S544x1024_S512x1024_16_0).toLoadRect = b := by
  rw [View.readCov_eq_canon']
  funext j
  refine (View.canon_cons_of_not_mem _ _ ?_).trans (View.canon_cons_emb _ _ _ j)
  rw [Rect.mem_set_unit]
  intro h
  have h0 := (h 0).1
  have hj : (j 0).val < 512 := (j 0).isLt
  change 528 ≤ 16 + 1 * (j 0).val at h0
  omega

theorem stores15 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x4864 .bf16) (harg5 : arg5.IsWhole) (arg6 : Memref sig .tc .vmem S16x1024 .bf16) (harg6 : arg6.IsWhole) (arg7 : Memref sig .tc .vmem S16x1024 .f32) (harg7 : arg7.IsWhole) (arg8 : Memref sig .tc .vmem S1x256 .f32) (harg8 : arg8.IsWhole) (arg9 : Memref sig .tc .vmem S16x128 .f32) (harg9 : arg9.IsWhole) (arg10 : Memref sig .tc .vmem S5x1024 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x256 .f32) (harg19 : arg19.IsWhole) (arg20 : Memref sig .tc .vmem S16x512 .f32) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S1x16x512 .f32) (harg25 : arg25.IsWhole) (arg26 : Memref sig .tc .vmem S544x1024 .bf16) (harg26 : arg26.IsWhole) (arg27 : Memref sig .tc .vmem S544x1024 .f32) (harg27 : arg27.IsWhole)
    (x0 : Vec F S16x1024 .f32) (x1 : Vec F S512x1024 .f32) (x2 : Vec F S16x1024 .f32) (x3 : Vec F S1x1024 .f32) (x4 : Vec F S1024x4864 .bf16) (x5 : Vec F S16x1024 .bf16) (x6 : Vec F S16x1024 .f32) (x7 : Vec F S1x256 .f32) (x8 : Vec F S16x128 .f32) (x9 : Vec F S5x1024 .f32) (x10 : Vec F S1x512 .f32) (x11 : Vec F S1x512 .f32) (x12 : Vec F S512x512 .bf16) :
    (projRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12).1.L15
      = wholeStore (k0_pay16 (tileRows x1 x3) (weightCols x4 ![0, 1024] inb_S1024x4864_S1024x512_0_1024)) := by
  unfold projRun
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  refine (congrArg (fun z => wholeStore (k0_pay16 z (weightCols x4 ![0, 1024] inb_S1024x4864_S1024x512_0_1024))) (scratch_rows arg26.view _ _ _)).trans rfl

theorem stores16 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x4864 .bf16) (harg5 : arg5.IsWhole) (arg6 : Memref sig .tc .vmem S16x1024 .bf16) (harg6 : arg6.IsWhole) (arg7 : Memref sig .tc .vmem S16x1024 .f32) (harg7 : arg7.IsWhole) (arg8 : Memref sig .tc .vmem S1x256 .f32) (harg8 : arg8.IsWhole) (arg9 : Memref sig .tc .vmem S16x128 .f32) (harg9 : arg9.IsWhole) (arg10 : Memref sig .tc .vmem S5x1024 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x256 .f32) (harg19 : arg19.IsWhole) (arg20 : Memref sig .tc .vmem S16x512 .f32) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S1x16x512 .f32) (harg25 : arg25.IsWhole) (arg26 : Memref sig .tc .vmem S544x1024 .bf16) (harg26 : arg26.IsWhole) (arg27 : Memref sig .tc .vmem S544x1024 .f32) (harg27 : arg27.IsWhole)
    (x0 : Vec F S16x1024 .f32) (x1 : Vec F S512x1024 .f32) (x2 : Vec F S16x1024 .f32) (x3 : Vec F S1x1024 .f32) (x4 : Vec F S1024x4864 .bf16) (x5 : Vec F S16x1024 .bf16) (x6 : Vec F S16x1024 .f32) (x7 : Vec F S1x256 .f32) (x8 : Vec F S16x128 .f32) (x9 : Vec F S5x1024 .f32) (x10 : Vec F S1x512 .f32) (x11 : Vec F S1x512 .f32) (x12 : Vec F S512x512 .bf16) :
    (projRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12).1.L16
      = wholeStore (k0_pay17 (tileRows x1 x3) (weightCols x4 ![0, 1536] inb_S1024x4864_S1024x512_0_1536)) := by
  unfold projRun
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  refine (congrArg (fun z => wholeStore (k0_pay17 z (weightCols x4 ![0, 1536] inb_S1024x4864_S1024x512_0_1536))) (scratch_rows arg26.view _ _ _)).trans rfl

theorem stores17 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x4864 .bf16) (harg5 : arg5.IsWhole) (arg6 : Memref sig .tc .vmem S16x1024 .bf16) (harg6 : arg6.IsWhole) (arg7 : Memref sig .tc .vmem S16x1024 .f32) (harg7 : arg7.IsWhole) (arg8 : Memref sig .tc .vmem S1x256 .f32) (harg8 : arg8.IsWhole) (arg9 : Memref sig .tc .vmem S16x128 .f32) (harg9 : arg9.IsWhole) (arg10 : Memref sig .tc .vmem S5x1024 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x256 .f32) (harg19 : arg19.IsWhole) (arg20 : Memref sig .tc .vmem S16x512 .f32) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S1x16x512 .f32) (harg25 : arg25.IsWhole) (arg26 : Memref sig .tc .vmem S544x1024 .bf16) (harg26 : arg26.IsWhole) (arg27 : Memref sig .tc .vmem S544x1024 .f32) (harg27 : arg27.IsWhole)
    (x0 : Vec F S16x1024 .f32) (x1 : Vec F S512x1024 .f32) (x2 : Vec F S16x1024 .f32) (x3 : Vec F S1x1024 .f32) (x4 : Vec F S1024x4864 .bf16) (x5 : Vec F S16x1024 .bf16) (x6 : Vec F S16x1024 .f32) (x7 : Vec F S1x256 .f32) (x8 : Vec F S16x128 .f32) (x9 : Vec F S5x1024 .f32) (x10 : Vec F S1x512 .f32) (x11 : Vec F S1x512 .f32) (x12 : Vec F S512x512 .bf16) :
    (projRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12).1.L17
      = wholeStore (k0_pay18 (tileRows x1 x3) (weightCols x4 ![0, 2048] inb_S1024x4864_S1024x512_0_2048)) := by
  unfold projRun
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  refine (congrArg (fun z => wholeStore (k0_pay18 z (weightCols x4 ![0, 2048] inb_S1024x4864_S1024x512_0_2048))) (scratch_rows arg26.view _ _ _)).trans rfl

theorem stores20 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x4864 .bf16) (harg5 : arg5.IsWhole) (arg6 : Memref sig .tc .vmem S16x1024 .bf16) (harg6 : arg6.IsWhole) (arg7 : Memref sig .tc .vmem S16x1024 .f32) (harg7 : arg7.IsWhole) (arg8 : Memref sig .tc .vmem S1x256 .f32) (harg8 : arg8.IsWhole) (arg9 : Memref sig .tc .vmem S16x128 .f32) (harg9 : arg9.IsWhole) (arg10 : Memref sig .tc .vmem S5x1024 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x256 .f32) (harg19 : arg19.IsWhole) (arg20 : Memref sig .tc .vmem S16x512 .f32) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S1x16x512 .f32) (harg25 : arg25.IsWhole) (arg26 : Memref sig .tc .vmem S544x1024 .bf16) (harg26 : arg26.IsWhole) (arg27 : Memref sig .tc .vmem S544x1024 .f32) (harg27 : arg27.IsWhole)
    (x0 : Vec F S16x1024 .f32) (x1 : Vec F S512x1024 .f32) (x2 : Vec F S16x1024 .f32) (x3 : Vec F S1x1024 .f32) (x4 : Vec F S1024x4864 .bf16) (x5 : Vec F S16x1024 .bf16) (x6 : Vec F S16x1024 .f32) (x7 : Vec F S1x256 .f32) (x8 : Vec F S16x128 .f32) (x9 : Vec F S5x1024 .f32) (x10 : Vec F S1x512 .f32) (x11 : Vec F S1x512 .f32) (x12 : Vec F S512x512 .bf16) :
    (projRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12).1.L20
      = wholeStore (k0_pay25 (headMatrix x12) (tileRows x1 x3) (weightCols x4 ![0, 2816] inb_S1024x4864_S1024x512_0_2816) (gainRow x10)) := by
  unfold projRun
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  refine (congrArg (fun z => wholeStore (k0_pay25 (headMatrix x12) z (weightCols x4 ![0, 2816] inb_S1024x4864_S1024x512_0_2816) (gainRow x10))) (scratch_rows arg26.view _ _ _)).trans rfl

theorem stores21 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x4864 .bf16) (harg5 : arg5.IsWhole) (arg6 : Memref sig .tc .vmem S16x1024 .bf16) (harg6 : arg6.IsWhole) (arg7 : Memref sig .tc .vmem S16x1024 .f32) (harg7 : arg7.IsWhole) (arg8 : Memref sig .tc .vmem S1x256 .f32) (harg8 : arg8.IsWhole) (arg9 : Memref sig .tc .vmem S16x128 .f32) (harg9 : arg9.IsWhole) (arg10 : Memref sig .tc .vmem S5x1024 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x256 .f32) (harg19 : arg19.IsWhole) (arg20 : Memref sig .tc .vmem S16x512 .f32) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S1x16x512 .f32) (harg25 : arg25.IsWhole) (arg26 : Memref sig .tc .vmem S544x1024 .bf16) (harg26 : arg26.IsWhole) (arg27 : Memref sig .tc .vmem S544x1024 .f32) (harg27 : arg27.IsWhole)
    (x0 : Vec F S16x1024 .f32) (x1 : Vec F S512x1024 .f32) (x2 : Vec F S16x1024 .f32) (x3 : Vec F S1x1024 .f32) (x4 : Vec F S1024x4864 .bf16) (x5 : Vec F S16x1024 .bf16) (x6 : Vec F S16x1024 .f32) (x7 : Vec F S1x256 .f32) (x8 : Vec F S16x128 .f32) (x9 : Vec F S5x1024 .f32) (x10 : Vec F S1x512 .f32) (x11 : Vec F S1x512 .f32) (x12 : Vec F S512x512 .bf16) :
    (projRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12).1.L21
      = wholeStore (k0_pay27 (headMatrix x12) (k0_pay26 (tileRows x1 x3) (weightCols x4 ![0, 3328] inb_S1024x4864_S1024x512_0_3328)) (gainRow x11)) := by
  unfold projRun
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  refine (congrArg (fun z => wholeStore (k0_pay27 (headMatrix x12) (k0_pay26 z (weightCols x4 ![0, 3328] inb_S1024x4864_S1024x512_0_3328)) (gainRow x11))) (scratch_rows arg26.view _ _ _)).trans rfl

theorem stores22 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x4864 .bf16) (harg5 : arg5.IsWhole) (arg6 : Memref sig .tc .vmem S16x1024 .bf16) (harg6 : arg6.IsWhole) (arg7 : Memref sig .tc .vmem S16x1024 .f32) (harg7 : arg7.IsWhole) (arg8 : Memref sig .tc .vmem S1x256 .f32) (harg8 : arg8.IsWhole) (arg9 : Memref sig .tc .vmem S16x128 .f32) (harg9 : arg9.IsWhole) (arg10 : Memref sig .tc .vmem S5x1024 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x256 .f32) (harg19 : arg19.IsWhole) (arg20 : Memref sig .tc .vmem S16x512 .f32) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S1x16x512 .f32) (harg25 : arg25.IsWhole) (arg26 : Memref sig .tc .vmem S544x1024 .bf16) (harg26 : arg26.IsWhole) (arg27 : Memref sig .tc .vmem S544x1024 .f32) (harg27 : arg27.IsWhole)
    (x0 : Vec F S16x1024 .f32) (x1 : Vec F S512x1024 .f32) (x2 : Vec F S16x1024 .f32) (x3 : Vec F S1x1024 .f32) (x4 : Vec F S1024x4864 .bf16) (x5 : Vec F S16x1024 .bf16) (x6 : Vec F S16x1024 .f32) (x7 : Vec F S1x256 .f32) (x8 : Vec F S16x128 .f32) (x9 : Vec F S5x1024 .f32) (x10 : Vec F S1x512 .f32) (x11 : Vec F S1x512 .f32) (x12 : Vec F S512x512 .bf16) :
    (projRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12).1.L22
      = wholeStore (k0_pay28 (tileRows x1 x3) (weightCols x4 ![0, 3840] inb_S1024x4864_S1024x512_0_3840)) := by
  unfold projRun
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  refine (congrArg (fun z => wholeStore (k0_pay28 z (weightCols x4 ![0, 3840] inb_S1024x4864_S1024x512_0_3840))) (scratch_rows arg26.view _ _ _)).trans rfl

theorem stores23 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x4864 .bf16) (harg5 : arg5.IsWhole) (arg6 : Memref sig .tc .vmem S16x1024 .bf16) (harg6 : arg6.IsWhole) (arg7 : Memref sig .tc .vmem S16x1024 .f32) (harg7 : arg7.IsWhole) (arg8 : Memref sig .tc .vmem S1x256 .f32) (harg8 : arg8.IsWhole) (arg9 : Memref sig .tc .vmem S16x128 .f32) (harg9 : arg9.IsWhole) (arg10 : Memref sig .tc .vmem S5x1024 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x256 .f32) (harg19 : arg19.IsWhole) (arg20 : Memref sig .tc .vmem S16x512 .f32) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S1x16x512 .f32) (harg25 : arg25.IsWhole) (arg26 : Memref sig .tc .vmem S544x1024 .bf16) (harg26 : arg26.IsWhole) (arg27 : Memref sig .tc .vmem S544x1024 .f32) (harg27 : arg27.IsWhole)
    (x0 : Vec F S16x1024 .f32) (x1 : Vec F S512x1024 .f32) (x2 : Vec F S16x1024 .f32) (x3 : Vec F S1x1024 .f32) (x4 : Vec F S1024x4864 .bf16) (x5 : Vec F S16x1024 .bf16) (x6 : Vec F S16x1024 .f32) (x7 : Vec F S1x256 .f32) (x8 : Vec F S16x128 .f32) (x9 : Vec F S5x1024 .f32) (x10 : Vec F S1x512 .f32) (x11 : Vec F S1x512 .f32) (x12 : Vec F S512x512 .bf16) :
    (projRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12).1.L23
      = wholeStore (k0_pay29 (tileRows x1 x3) (weightCols x4 ![0, 4352] inb_S1024x4864_S1024x512_0_4352)) := by
  unfold projRun
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  refine (congrArg (fun z => wholeStore (k0_pay29 z (weightCols x4 ![0, 4352] inb_S1024x4864_S1024x512_0_4352))) (scratch_rows arg26.view _ _ _)).trans rfl

end Cert.Proj

end
-- ==== Proof.ProjHost.lean ====
/- The operands that the projection's host code prepares, in terms of the argument arrays (`V_…`): the weights with the gates'
   columns set apart, the gains repeated over the heads, and the matrix that is one where two lanes share a head (`V_bd`). -/
module

public import proofs.«01_k».proof.Proof.ProjLayer
public import proofs.«01_k».proof.Proof.Gen.Kernel2Ideal.Frame.Runs
public import Idealize.ShloMosaic.Lib.StableHlo.ReadAt
public import Idealize.ShloMosaic.Lib.Pointwise
public import Idealize.ShloMosaic.Lib.Pipeline.ValueKit

@[expose] public section

set_option maxRecDepth 65536
set_option maxHeartbeats 8000000

noncomputable section

namespace Cert.Proj

open Cert.Kernel2Ideal Cert.Kernel2Ideal.Gen Idealize.ShloMosaic Idealize.ShloMosaic.TcCoe Idealize.ShloMosaic.Tactic

variable (m : (ℓ : Loc nD τ sig) → Buf (Elt Ideal) ℓ)

/-- The argument arrays of a launch. -/
def argsOf (c : Dev nD) : Args :=
  ⟨m (c, Proc.tc.devRef main_arg0), m (c, Proc.tc.devRef main_arg2), m (c, Proc.tc.devRef main_arg3), m (c, Proc.tc.devRef main_arg6),
    m (c, Proc.tc.devRef main_arg7)⟩

theorem V_x (c : Dev nD) (n : Fin 65536) (k : Fin 1024) : V m c main_v46 (ix2 n k) = (argsOf m c).x (ix3 (seqOf n) (tokOf n) k) := by
  unfold V
  after_reads_at
  rfl

theorem V_g (c : Dev nD) (k : Fin 1024) : V m c main_v21 (ix2 0 k) = (argsOf m c).g (ix1 k) := by
  unfold V
  after_reads_at
  rfl

theorem V_gq (c : Dev nD) (a : Fin 512) : V m c main_v35 (ix2 0 a) = (argsOf m c).gq (ix1 ⟨a.val % 64, Nat.mod_lt _ (by norm_num)⟩) := by
  unfold V
  after_reads_at
  rfl

theorem V_gk (c : Dev nD) (a : Fin 512) : V m c main_v39 (ix2 0 a) = (argsOf m c).gk (ix1 ⟨a.val % 64, Nat.mod_lt _ (by norm_num)⟩) := by
  unfold V
  after_reads_at
  rfl

/-- The columns before the gates' stay in their places. -/
theorem V_w_low (c : Dev nD) (k : Fin 1024) (n : Fin 4864) (e : Fin 4624) (h : n.val < 2560) (he : e.val = n.val) :
    V m c main_v18 (ix2 k n) = (argsOf m c).w (ix2 k e) := by
  unfold V
  after_reads_at
  split
  · after_reads_at
    exact congrArg (m (c, Proc.tc.devRef main_arg3)) (congrArg (ix2 k) (Fin.ext (by show n.val = e.val; exact he.symm)))
  · exfalso
    omega

/-- The columns after the gates' move up by the room that is left for the gates'. -/
theorem V_w_high (c : Dev nD) (k : Fin 1024) (n : Fin 4864) (e : Fin 4624) (h : 2816 ≤ n.val) (he : n.val = e.val + 240) :
    V m c main_v18 (ix2 k n) = (argsOf m c).w (ix2 k e) := by
  unfold V
  after_reads_at
  split
  · exfalso
    omega
  · split
    · exfalso
      omega
    · split
      · exfalso
        omega
      · after_reads_at
        exact congrArg (m (c, Proc.tc.devRef main_arg3)) (congrArg (ix2 k) (Fin.ext (by show 2576 + (n.val - 2560 - 128 - 128) = e.val; omega)))

/-- The word of the head that holds lane `a`. -/
def headWord (a : Fin 512) : BitVec 32 :=
  Scalar.select
    (IntOp.andi
      (IntOp.cmpi CmpIPredicate.ne
        (if BitVec.ofNat 32 a.val = 0 then (0 : BitVec 32) else if (BitVec.ofNat 32 a.val).msb = true then -1 else 1)
        (if id (constantI S_ 32 64#32) ix0 = 0 then (0 : BitVec 32)
        else if BitVec.msb (id (constantI S_ 32 64#32) ix0) = true then -1 else 1))
      (IntOp.cmpi CmpIPredicate.ne
        (IntOp.remsi ArithUnit.host (BitVec.ofNat 32 a.val) (id (constantI S_ 32 64#32) ix0)) 0#32))
    (IntOp.subi (IntOp.divsi ArithUnit.host (BitVec.ofNat 32 a.val) (id (constantI S_ 32 64#32) ix0)) 1#32)
    (IntOp.divsi ArithUnit.host (BitVec.ofNat 32 a.val) (id (constantI S_ 32 64#32) ix0))

theorem headWord_eq : ∀ a : Fin 512, headWord a = BitVec.ofNat 32 (a.val / 64) := by
  decide +kernel

theorem same_head : ∀ a b : Fin 8, IntOp.cmpi CmpIPredicate.eq (BitVec.ofNat 32 a.val) (BitVec.ofNat 32 b.val) = if a.val = b.val then 1#1 else 0#1 := by
  decide +kernel

/-- The matrix that adds over heads. -/
theorem V_bd (c : Dev nD) (i j : Fin 512) : V m c main_v45 (ix2 i j) = (if i.val / 64 = j.val / 64 then 1 else 0 : EReal) := by
  unfold V
  after_reads_at
  show FloatOps.uitofp (F := Ideal) FTy.bf16 (IntOp.cmpi CmpIPredicate.eq (headWord i) (headWord j)) = _
  rw [headWord_eq, headWord_eq]
  refine (congrArg (FloatOps.uitofp (F := Ideal) FTy.bf16) (same_head ⟨i.val / 64, by omega⟩ ⟨j.val / 64, by omega⟩)).trans ?_
  show FloatOps.uitofp (F := Ideal) FTy.bf16 (if i.val / 64 = j.val / 64 then 1#1 else 0#1) = _
  split
  · show (((1#1 : BitVec 1).toNat : ℝ) : EReal) = 1
    norm_num
  · show (((0#1 : BitVec 1).toNat : ℝ) : EReal) = 0
    norm_num

end Cert.Proj

end
-- ==== Proof.ProjHeads.lean ====
/- The body's sum over a head, a product with a matrix of zeros and ones, is the sum over the head's lanes (`headed_eq`). -/
module

public import proofs.«01_k».proof.Proof.ProjBlock

@[expose] public section

noncomputable section

namespace Cert.Proj

open Idealize.ShloMosaic

theorem sixtyfour_word : sixtyfour = ((64 : ℝ) : EReal) := by
  simp [Ideal.ofBits, Ideal.ieee]
  rw [← EReal.coe_mul]
  norm_num

theorem inv_word : Ideal.ofBits .f32 0x3C800000#32 = ((1 / 64 : ℝ) : EReal) := by
  simp [Ideal.ofBits, Ideal.ieee]
  rw [← EReal.coe_mul]
  norm_num

/-- A sum over all lanes that keeps one head's. -/
theorem sum_head (f : Fin 512 → EReal) (a : Fin 512) :
    ∑ j : Fin 512, f j * (if j.val / 64 = a.val / 64 then 1 else 0 : EReal) = ∑ l : Fin 64, f (lane a l) := by
  refine (Finset.sum_of_injOn (lane a) ?_ (fun _ _ => Finset.mem_coe.mpr (Finset.mem_univ _)) ?_ ?_).symm
  · intro x _ y _ h
    have h' : 64 * (a.val / 64) + x.val = 64 * (a.val / 64) + y.val := congrArg Fin.val h
    exact Fin.ext (by omega)
  · intro j _ hj
    rw [if_neg, mul_zero]
    intro h
    exact hj ⟨⟨j.val % 64, Nat.mod_lt _ (by norm_num)⟩, Finset.mem_coe.mpr (Finset.mem_univ _), Fin.ext (by show 64 * (a.val / 64) + j.val % 64 = j.val; omega)⟩
  · intro l _
    have h : (lane a l).val / 64 = a.val / 64 := by
      show (64 * (a.val / 64) + l.val) / 64 = a.val / 64
      omega
    rw [if_pos h, mul_one]

theorem headed_eq (t : Fin 512 → EReal) (bd : Fin 512 → EReal) (a : Fin 512) (g : EReal)
    (hbd : ∀ j, bd j = (if j.val / 64 = a.val / 64 then 1 else 0 : EReal)) :
    headed t bd a g = rms sixtyfour (t a) (fun l : Fin 64 => t (lane a l)) g := by
  have e : ∑ j, t j * t j * bd j = ∑ l : Fin 64, t (lane a l) * t (lane a l) :=
    (Finset.sum_congr rfl fun j _ => by rw [hbd j]).trans (sum_head (fun j => t j * t j) a)
  unfold headed rms
  rw [e, inv_word, sixtyfour_word, Ideal.div_coe (by norm_num)]

end Cert.Proj

end
-- ==== Proof.ProjTile.lean ====
/- What a grid point stores, in terms of the argument arrays: the blocks that it loads are the arguments' entries (`tile_…`), its
   scratch rows are normalised tokens (`rows_at`), and each store is a block of a result (`plain_at`, `queries_at`, `keys_at`). -/
module

public import proofs.«01_k».proof.Proof.ProjStores
public import proofs.«01_k».proof.Proof.ProjHost
public import proofs.«01_k».proof.Proof.ProjHeads
public import Idealize.ShloMosaic.Lib.Pipeline.ReadBack

@[expose] public section

set_option maxRecDepth 65536
set_option maxHeartbeats 1000000

noncomputable section

namespace Cert.Proj

open Cert.Kernel2Ideal Cert.Kernel2Ideal.Gen Idealize.ShloMosaic Idealize.ShloMosaic.TcCoe Idealize.ShloMosaic.Tactic

theorem idx_in : ∀ t : Fin grid0.N,
    (win0_1.index t 0 = t.val ∧ win0_1.index t 1 = 0) ∧ (win0_3.index t 0 = 0 ∧ win0_3.index t 1 = 0)
    ∧ (win0_4.index t 0 = 0 ∧ win0_4.index t 1 = 0) ∧ (win0_10.index t 0 = 0 ∧ win0_10.index t 1 = 0)
    ∧ (win0_11.index t 0 = 0 ∧ win0_11.index t 1 = 0) ∧ (win0_12.index t 0 = 0 ∧ win0_12.index t 1 = 0) := by
  decide +kernel

/-- An array read at a place whose coordinates are known. -/
theorem read2 {N M : ℕ} (X : (⟨2, ![N, M]⟩ : Shape).Idx → EReal) (z : (⟨2, ![N, M]⟩ : Shape).Idx) (n : Fin N) (a : Fin M)
    (h0 : (z 0).val = n.val) (h1 : (z 1).val = a.val) : X z = X (ix2 n a) :=
  congrArg X (funext fun x => Fin.ext (match x with
    | ⟨0, _⟩ => h0
    | ⟨1, _⟩ => h1))

theorem at_block {i t s r : ℕ} (e : i = t) : i * s + r = s * t + r := by rw [e, Nat.mul_comm]

theorem at_zero {i s r : ℕ} (e : i = 0) : i * s + r = r := by rw [e, Nat.zero_mul, Nat.zero_add]

/-- Row `r` of the tile of grid point `t`. -/
def tileRow (t : Fin cfg0.N) (r : Fin 512) : Fin 65536 := ⟨512 * t.val + r.val, by have h : t.val < 128 := t.isLt; omega⟩

variable (m : (ℓ : Loc nD τ sig) → Buf (Elt Ideal) ℓ)

theorem tile_x (c : Dev nD) (t : Fin cfg0.N) (r : Fin 512) (k : Fin 1024) :
    iblk m c 1 t (ix2 r k) = (argsOf m c).x (ix3 (seqOf (tileRow t r)) (tokOf (tileRow t r)) k) :=
  (read2 (V m c main_v46) (((cfg0.win 1).blk t).view.emb (ix2 r k)) (tileRow t r) k
    ((Pipeline.Window.rect_emb_val win0_1 t (ix2 r k) 0 rfl).trans (at_block (idx_in t).1.1))
    ((Pipeline.Window.rect_emb_val win0_1 t (ix2 r k) 1 rfl).trans (at_zero (idx_in t).1.2))).trans (V_x m c _ k)

theorem tile_g (c : Dev nD) (t : Fin cfg0.N) (k : Fin 1024) : iblk m c 3 t (ix2 0 k) = (argsOf m c).g (ix1 k) :=
  (read2 (V m c main_v21) (((cfg0.win 3).blk t).view.emb (ix2 0 k)) 0 k
    ((Pipeline.Window.rect_emb_val win0_3 t (ix2 0 k) 0 rfl).trans (at_zero (idx_in t).2.1.1))
    ((Pipeline.Window.rect_emb_val win0_3 t (ix2 0 k) 1 rfl).trans (at_zero (idx_in t).2.1.2))).trans (V_g m c k)

theorem tile_w (c : Dev nD) (t : Fin cfg0.N) (k : Fin 1024) (n : Fin 4864) : iblk m c 4 t (ix2 k n) = V m c main_v18 (ix2 k n) :=
  read2 (V m c main_v18) (((cfg0.win 4).blk t).view.emb (ix2 k n)) k n
    ((Pipeline.Window.rect_emb_val win0_4 t (ix2 k n) 0 rfl).trans (at_zero (idx_in t).2.2.1.1))
    ((Pipeline.Window.rect_emb_val win0_4 t (ix2 k n) 1 rfl).trans (at_zero (idx_in t).2.2.1.2))

theorem tile_gq (c : Dev nD) (t : Fin cfg0.N) (a : Fin 512) : iblk m c 10 t (ix2 0 a) = (argsOf m c).gq (ix1 ⟨a.val % 64, Nat.mod_lt _ (by norm_num)⟩) :=
  (read2 (V m c main_v35) (((cfg0.win 10).blk t).view.emb (ix2 0 a)) 0 a
    ((Pipeline.Window.rect_emb_val win0_10 t (ix2 0 a) 0 rfl).trans (at_zero (idx_in t).2.2.2.1.1))
    ((Pipeline.Window.rect_emb_val win0_10 t (ix2 0 a) 1 rfl).trans (at_zero (idx_in t).2.2.2.1.2))).trans (V_gq m c a)

theorem tile_gk (c : Dev nD) (t : Fin cfg0.N) (a : Fin 512) : iblk m c 11 t (ix2 0 a) = (argsOf m c).gk (ix1 ⟨a.val % 64, Nat.mod_lt _ (by norm_num)⟩) :=
  (read2 (V m c main_v39) (((cfg0.win 11).blk t).view.emb (ix2 0 a)) 0 a
    ((Pipeline.Window.rect_emb_val win0_11 t (ix2 0 a) 0 rfl).trans (at_zero (idx_in t).2.2.2.2.1.1))
    ((Pipeline.Window.rect_emb_val win0_11 t (ix2 0 a) 1 rfl).trans (at_zero (idx_in t).2.2.2.2.1.2))).trans (V_gk m c a)

theorem tile_bd (c : Dev nD) (t : Fin cfg0.N) (i j : Fin 512) : iblk m c 12 t (ix2 i j) = (if i.val / 64 = j.val / 64 then 1 else 0 : EReal) :=
  (read2 (V m c main_v45) (((cfg0.win 12).blk t).view.emb (ix2 i j)) i j
    ((Pipeline.Window.rect_emb_val win0_12 t (ix2 i j) 0 rfl).trans (at_zero (idx_in t).2.2.2.2.2.1))
    ((Pipeline.Window.rect_emb_val win0_12 t (ix2 i j) 1 rfl).trans (at_zero (idx_in t).2.2.2.2.2.2))).trans (V_bd m c i j)

/-- A load of a rectangle, at an index. -/
theorem ld2 {N M P Q : ℕ} {e : EltTy} (he : Elt Ideal e = EReal) (x : Vec Ideal ⟨2, ![N, M]⟩ e) (o0 o1 : ℕ)
    (h : ∀ a, (![o0, o1] : Fin 2 → ℕ) a + (![P, Q] : Fin 2 → ℕ) a ≤ (⟨2, ![N, M]⟩ : Shape).size a) (r : Fin P) (k : Fin Q)
    (n : Fin N) (a : Fin M) (hn : n.val = o0 + r.val) (ha : a.val = o1 + k.val) :
    View.ld (Val := Elt Ideal) x (Rect.unit (s := ⟨2, ![N, M]⟩) ![o0, o1] ![P, Q] h) (ix2 r k) = x (ix2 n a) :=
  congrArg x (funext fun d => Fin.ext (match d with
    | ⟨0, _⟩ => (by show o0 + 1 * r.val = n.val; omega)
    | ⟨1, _⟩ => (by show o1 + 1 * k.val = a.val; omega)))

theorem rows_at (c : Dev nD) (t : Fin cfg0.N) (r : Fin 512) (k : Fin 1024) :
    tileRows (F := Ideal) (iblk m c 1 t) (iblk m c 3 t) (ix2 r k) = normed (argsOf m c) (seqOf (tileRow t r)) (tokOf (tileRow t r)) k := by
  have ex : ∀ j : Fin 1024, View.ld (Val := Elt Ideal) (iblk m c 1 t) (Rect.unit (s := S512x1024) ![0, 0] S512x1024.size inb_S512x1024_S512x1024_0_0) (ix2 r j)
      = (argsOf m c).x (ix3 (seqOf (tileRow t r)) (tokOf (tileRow t r)) j) := fun j =>
    (ld2 (e := .f32) rfl (iblk m c 1 t) 0 0 _ r j r j (Nat.zero_add _).symm (Nat.zero_add _).symm).trans (tile_x m c t r j)
  have eg : View.ld (Val := Elt Ideal) (iblk m c 3 t) (Rect.unit (s := S1x1024) ![0, 0] S1x1024.size inb_S1x1024_S1x1024_0_0) (ix2 0 k) = (argsOf m c).g (ix1 k) :=
    (ld2 (e := .f32) rfl (iblk m c 3 t) 0 0 _ 0 k 0 k rfl (Nat.zero_add _).symm).trans (tile_g m c t k)
  refine (pay4_apply _ _ r k).trans ?_
  unfold normed
  rw [eg, ex]
  exact congrArg (fun ys : Fin 1024 → EReal => rms _ _ ys _) (funext ex)

/-- Columns of the weights before the gates'. -/
theorem cols_low (c : Dev nD) (t : Fin cfg0.N) (off : Fin 4113) (h) (hoff : off.val + 512 ≤ 2560) (k : Fin 1024) (a : Fin 512) :
    weightCols (F := Ideal) (iblk m c 4 t) ![0, off.val] h (ix2 k a) = (argsOf m c).w (ix2 k ⟨off.val + a.val, by omega⟩) :=
  (ld2 (e := .bf16) rfl (iblk m c 4 t) 0 off.val _ k a k ⟨off.val + a.val, by omega⟩ (Nat.zero_add _).symm rfl).trans
    ((tile_w m c t _ _).trans (V_w_low m c _ _ _ (by show off.val + a.val < 2560; omega) rfl))

/-- Columns of the weights after the gates'. -/
theorem cols_high (c : Dev nD) (t : Fin cfg0.N) (off : Fin 4113) (o : ℕ) (h) (ho : o = off.val + 240) (hoff : 2576 ≤ off.val) (k : Fin 1024) (a : Fin 512) :
    weightCols (F := Ideal) (iblk m c 4 t) ![0, o] h (ix2 k a) = (argsOf m c).w (ix2 k ⟨off.val + a.val, by omega⟩) :=
  (ld2 (e := .bf16) rfl (iblk m c 4 t) 0 o _ k a k ⟨o + a.val, by omega⟩ (Nat.zero_add _).symm rfl).trans
    ((tile_w m c t _ _).trans (V_w_high m c _ _ ⟨off.val + a.val, by omega⟩ (by show 2816 ≤ o + a.val; omega) (by show o + a.val = off.val + a.val + 240; omega)))

/-- The products of the tile's rows with columns of the weights. -/
theorem products_at (c : Dev nD) (t : Fin cfg0.N) (off : Fin 4113) (w : Vec Ideal S1024x512 .bf16)
    (hw : ∀ (k : Fin 1024) (a : Fin 512), w (ix2 k a) = (argsOf m c).w (ix2 k ⟨off.val + a.val, by omega⟩)) (r a : Fin 512) :
    ∑ k : Fin 1024, tileRows (F := Ideal) (iblk m c 1 t) (iblk m c 3 t) (ix2 r k) * w (ix2 k a)
      = columns (argsOf m c) off (seqOf (tileRow t r)) (tokOf (tileRow t r)) a :=
  Finset.sum_congr rfl fun k _ => congrArg₂ (fun x y : EReal => x * y) (rows_at m c t r k) (hw k a)

theorem plain_at (c : Dev nD) (t : Fin cfg0.N) (off : Fin 4113) (w : Vec Ideal S1024x512 .bf16)
    (hw : ∀ (k : Fin 1024) (a : Fin 512), w (ix2 k a) = (argsOf m c).w (ix2 k ⟨off.val + a.val, by omega⟩)) (r a : Fin 512) :
    k0_pay16 (F := Ideal) (tileRows (iblk m c 1 t) (iblk m c 3 t)) w (ix2 r a) = plain (argsOf m c) off (ix2 (tileRow t r) a) :=
  (pay16_apply _ _ r a).trans (products_at m c t off w hw r a)

theorem pay10_apply (b : Vec Ideal S512x512 .bf16) (i j : Fin 512) : k0_pay10 b (ix2 i j) = b (ix2 i j) := by
  pointwise [k0_pay10]

theorem matrix_at (c : Dev nD) (t : Fin cfg0.N) (i j : Fin 512) :
    headMatrix (F := Ideal) (iblk m c 12 t) (ix2 i j) = (if i.val / 64 = j.val / 64 then 1 else 0 : EReal) := by
  unfold headMatrix
  refine (pay10_apply _ i j).trans ?_
  exact (ld2 (e := .bf16) rfl (iblk m c 12 t) 0 0 _ i j i j (Nat.zero_add _).symm (Nat.zero_add _).symm).trans (tile_bd m c t i j)

theorem gain_q (c : Dev nD) (t : Fin cfg0.N) (a : Fin 512) :
    gainRow (F := Ideal) (iblk m c 10 t) (ix2 0 a) = (argsOf m c).gq (ix1 ⟨a.val % 64, Nat.mod_lt _ (by norm_num)⟩) := by
  unfold gainRow
  exact (ld2 (e := .f32) rfl (iblk m c 10 t) 0 0 _ 0 a 0 a rfl (Nat.zero_add _).symm).trans (tile_gq m c t a)

theorem gain_k (c : Dev nD) (t : Fin cfg0.N) (a : Fin 512) :
    gainRow (F := Ideal) (iblk m c 11 t) (ix2 0 a) = (argsOf m c).gk (ix1 ⟨a.val % 64, Nat.mod_lt _ (by norm_num)⟩) := by
  unfold gainRow
  exact (ld2 (e := .f32) rfl (iblk m c 11 t) 0 0 _ 0 a 0 a rfl (Nat.zero_add _).symm).trans (tile_gk m c t a)

/-- A head-wise normalised product, once its parts are known. -/
theorem headed_at (T : Fin 512 → EReal) (T' : Fin 512 → EReal) (bd : Fin 512 → EReal) (a : Fin 512) (y : EReal) (gain : (⟨1, ![64]⟩ : Shape).Idx → EReal)
    (hT : ∀ j, T j = T' j) (hbd : ∀ j, bd j = (if j.val / 64 = a.val / 64 then 1 else 0 : EReal))
    (hy : y = gain (ix1 ⟨a.val % 64, Nat.mod_lt _ (by norm_num)⟩)) : headed T bd a y = byHead T' gain a := by
  obtain rfl : T = T' := funext hT
  subst hy
  exact headed_eq T bd a _ hbd

theorem keys_at (c : Dev nD) (t : Fin cfg0.N) (w : Vec Ideal S1024x512 .bf16)
    (hw : ∀ (k : Fin 1024) (a : Fin 512), w (ix2 k a) = (argsOf m c).w (ix2 k ⟨3088 + a.val, by omega⟩)) (r a : Fin 512) :
    k0_pay27 (F := Ideal) (headMatrix (iblk m c 12 t)) (k0_pay26 (tileRows (iblk m c 1 t) (iblk m c 3 t)) w) (gainRow (iblk m c 11 t)) (ix2 r a)
      = keys (argsOf m c) (ix2 (tileRow t r) a) := by
  refine (pay27_apply _ _ _ r a).trans ?_
  show _ = byHead (columns (argsOf m c) 3088 (seqOf (tileRow t r)) (tokOf (tileRow t r))) (argsOf m c).gk a
  refine headed_at _ _ _ a _ _ (fun j => ?_) (fun j => ?_) ?_
  · exact (pay26_apply _ _ r j).trans (products_at m c t 3088 w hw r j)
  · exact matrix_at m c t j a
  · exact gain_k m c t a

theorem queries_at (c : Dev nD) (t : Fin cfg0.N) (w : Vec Ideal S1024x512 .bf16)
    (hw : ∀ (k : Fin 1024) (a : Fin 512), w (ix2 k a) = (argsOf m c).w (ix2 k ⟨2576 + a.val, by omega⟩)) (r a : Fin 512) :
    k0_pay25 (F := Ideal) (headMatrix (iblk m c 12 t)) (tileRows (iblk m c 1 t) (iblk m c 3 t)) w (gainRow (iblk m c 10 t)) (ix2 r a)
      = queries (argsOf m c) (ix2 (tileRow t r) a) := by
  refine (pay25_apply _ _ _ _ r a).trans ?_
  show _ = byHead (columns (argsOf m c) 2576 (seqOf (tileRow t r)) (tokOf (tileRow t r))) (argsOf m c).gq a * eighth
  refine congrArg (fun y : EReal => y * eighth) (headed_at _ _ _ a _ _ (fun j => ?_) (fun j => ?_) ?_)
  · exact products_at m c t 2576 w hw r j
  · exact matrix_at m c t j a
  · exact gain_q m c t a

/-- A block stored whole is read as it was stored. -/
theorem whole_read (v : View sig .tc .vmem S512x512 .bf16) (w : Vec Ideal S512x512 .bf16) (y : S512x512.Idx) :
    v.read (Elt Ideal) (v.writes (Elt Ideal) v.junk (wholeStore w)) y = w y := by
  rw [View.read_writes_junk_eq_canon]
  unfold wholeStore
  refine (View.canon_apply_of_pieces (Val := Elt Ideal) w _ (View.PiecesOf.mem (show View.PiecesOf w (_ :: []) from ⟨fun x => congrArg w (funext fun d => Fin.ext ?_), trivial⟩)) y ?_)
  · match d with
    | ⟨0, _⟩ => exact (Nat.zero_add _).symm.trans (congrArg (0 + ·) (Nat.one_mul _).symm)
    | ⟨1, _⟩ => exact (Nat.zero_add _).symm.trans (congrArg (0 + ·) (Nat.one_mul _).symm)
  · refine ⟨_, List.mem_cons_self, ?_⟩
    rw [Rect.mem_set_unit]
    intro d
    match d with
    | ⟨0, _⟩ => exact ⟨Nat.zero_le _, Nat.lt_of_lt_of_eq (y 0).isLt (Nat.zero_add _).symm⟩
    | ⟨1, _⟩ => exact ⟨Nat.zero_le _, Nat.lt_of_lt_of_eq (y 1).isLt (Nat.zero_add _).symm⟩

end Cert.Proj

end
-- ==== Proof.ProjFrame.lean ====
/- The projection call's run: the pipeline's proof data over the body's run (`dats`), the run's final state (`run_main`), and the
   arguments kept (`frame`), over any float values. -/
module

public import proofs.«01_k».proof.Proof.ProjRun
public import Idealize.ShloMosaic.Lib.Claim

@[expose] public section

set_option maxRecDepth 16384

noncomputable section

namespace Cert.Proj

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at grid point `t`. -/
def runAt (c : Dev nD) (t : Fin cfg0.N) :=
  projRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-! The stores of each output cover its block. -/

theorem cover13 (c : Dev nD) (t : Fin cfg0.N) (y : S512x512.Idx) : ∃ pc ∈ (runAt m c t).1.L13, y ∈ pc.1.set :=
  View.cover_of_tiledL _ S512x512.size (by sl_kernel_rfl) y
theorem cover14 (c : Dev nD) (t : Fin cfg0.N) (y : S512x512.Idx) : ∃ pc ∈ (runAt m c t).1.L14, y ∈ pc.1.set :=
  View.cover_of_tiledL _ S512x512.size (by sl_kernel_rfl) y
theorem cover15 (c : Dev nD) (t : Fin cfg0.N) (y : S512x512.Idx) : ∃ pc ∈ (runAt m c t).1.L15, y ∈ pc.1.set :=
  View.cover_of_tiledL _ S512x512.size (by sl_kernel_rfl) y
theorem cover16 (c : Dev nD) (t : Fin cfg0.N) (y : S512x512.Idx) : ∃ pc ∈ (runAt m c t).1.L16, y ∈ pc.1.set :=
  View.cover_of_tiledL _ S512x512.size (by sl_kernel_rfl) y
theorem cover17 (c : Dev nD) (t : Fin cfg0.N) (y : S512x512.Idx) : ∃ pc ∈ (runAt m c t).1.L17, y ∈ pc.1.set :=
  View.cover_of_tiledL _ S512x512.size (by sl_kernel_rfl) y
theorem cover18 (c : Dev nD) (t : Fin cfg0.N) (y : S512x256.Idx) : ∃ pc ∈ (runAt m c t).1.L18, y ∈ pc.1.set :=
  View.cover_of_tiledL _ S512x256.size (by sl_kernel_rfl) y
theorem cover19 (c : Dev nD) (t : Fin cfg0.N) (y : S16x512.Idx) : ∃ pc ∈ (runAt m c t).1.L19, y ∈ pc.1.set :=
  View.cover_of_tiledL _ S16x512.size (by sl_kernel_rfl) y
theorem cover20 (c : Dev nD) (t : Fin cfg0.N) (y : S512x512.Idx) : ∃ pc ∈ (runAt m c t).1.L20, y ∈ pc.1.set :=
  View.cover_of_tiledL _ S512x512.size (by sl_kernel_rfl) y
theorem cover21 (c : Dev nD) (t : Fin cfg0.N) (y : S512x512.Idx) : ∃ pc ∈ (runAt m c t).1.L21, y ∈ pc.1.set :=
  View.cover_of_tiledL _ S512x512.size (by sl_kernel_rfl) y
theorem cover22 (c : Dev nD) (t : Fin cfg0.N) (y : S512x512.Idx) : ∃ pc ∈ (runAt m c t).1.L22, y ∈ pc.1.set :=
  View.cover_of_tiledL _ S512x512.size (by sl_kernel_rfl) y
theorem cover23 (c : Dev nD) (t : Fin cfg0.N) (y : S512x512.Idx) : ∃ pc ∈ (runAt m c t).1.L23, y ∈ pc.1.set :=
  View.cover_of_tiledL _ S512x512.size (by sl_kernel_rfl) y
theorem cover24 (c : Dev nD) (t : Fin cfg0.N) (y : S1x16x512.Idx) : ∃ pc ∈ (runAt m c t).1.L24, y ∈ pc.1.set :=
  View.cover_of_tiledL _ S1x16x512.size (by sl_kernel_rfl) y

/-! What the body leaves in each output block. -/

@[irreducible] def out13 (c : Dev nD) (t : Fin cfg0.N) : Vec F S512x512 .bf16 :=
  VO0_13.read (Elt F) (VO0_13.writes (Elt F) VO0_13.junk (runAt m c t).1.L13)

theorem out13_eq (c : Dev nD) (t : Fin cfg0.N) : out13 m c t = VO0_13.read (Elt F) (VO0_13.writes (Elt F) VO0_13.junk (runAt m c t).1.L13) := by
  unfold out13
  rfl

@[irreducible] def out14 (c : Dev nD) (t : Fin cfg0.N) : Vec F S512x512 .bf16 :=
  VO0_14.read (Elt F) (VO0_14.writes (Elt F) VO0_14.junk (runAt m c t).1.L14)

theorem out14_eq (c : Dev nD) (t : Fin cfg0.N) : out14 m c t = VO0_14.read (Elt F) (VO0_14.writes (Elt F) VO0_14.junk (runAt m c t).1.L14) := by
  unfold out14
  rfl

@[irreducible] def out15 (c : Dev nD) (t : Fin cfg0.N) : Vec F S512x512 .bf16 :=
  VO0_15.read (Elt F) (VO0_15.writes (Elt F) VO0_15.junk (runAt m c t).1.L15)

theorem out15_eq (c : Dev nD) (t : Fin cfg0.N) : out15 m c t = VO0_15.read (Elt F) (VO0_15.writes (Elt F) VO0_15.junk (runAt m c t).1.L15) := by
  unfold out15
  rfl

@[irreducible] def out16 (c : Dev nD) (t : Fin cfg0.N) : Vec F S512x512 .bf16 :=
  VO0_16.read (Elt F) (VO0_16.writes (Elt F) VO0_16.junk (runAt m c t).1.L16)

theorem out16_eq (c : Dev nD) (t : Fin cfg0.N) : out16 m c t = VO0_16.read (Elt F) (VO0_16.writes (Elt F) VO0_16.junk (runAt m c t).1.L16) := by
  unfold out16
  rfl

@[irreducible] def out17 (c : Dev nD) (t : Fin cfg0.N) : Vec F S512x512 .bf16 :=
  VO0_17.read (Elt F) (VO0_17.writes (Elt F) VO0_17.junk (runAt m c t).1.L17)

theorem out17_eq (c : Dev nD) (t : Fin cfg0.N) : out17 m c t = VO0_17.read (Elt F) (VO0_17.writes (Elt F) VO0_17.junk (runAt m c t).1.L17) := by
  unfold out17
  rfl

@[irreducible] def out18 (c : Dev nD) (t : Fin cfg0.N) : Vec F S512x256 .f32 :=
  VO0_18.read (Elt F) (VO0_18.writes (Elt F) VO0_18.junk (runAt m c t).1.L18)

theorem out18_eq (c : Dev nD) (t : Fin cfg0.N) : out18 m c t = VO0_18.read (Elt F) (VO0_18.writes (Elt F) VO0_18.junk (runAt m c t).1.L18) := by
  unfold out18
  rfl

@[irreducible] def out19 (c : Dev nD) (t : Fin cfg0.N) : Vec F S16x512 .f32 :=
  VO0_19.read (Elt F) (VO0_19.writes (Elt F) VO0_19.junk (runAt m c t).1.L19)

theorem out19_eq (c : Dev nD) (t : Fin cfg0.N) : out19 m c t = VO0_19.read (Elt F) (VO0_19.writes (Elt F) VO0_19.junk (runAt m c t).1.L19) := by
  unfold out19
  rfl

@[irreducible] def out20 (c : Dev nD) (t : Fin cfg0.N) : Vec F S512x512 .bf16 :=
  VO0_20.read (Elt F) (VO0_20.writes (Elt F) VO0_20.junk (runAt m c t).1.L20)

theorem out20_eq (c : Dev nD) (t : Fin cfg0.N) : out20 m c t = VO0_20.read (Elt F) (VO0_20.writes (Elt F) VO0_20.junk (runAt m c t).1.L20) := by
  unfold out20
  rfl

@[irreducible] def out21 (c : Dev nD) (t : Fin cfg0.N) : Vec F S512x512 .bf16 :=
  VO0_21.read (Elt F) (VO0_21.writes (Elt F) VO0_21.junk (runAt m c t).1.L21)

theorem out21_eq (c : Dev nD) (t : Fin cfg0.N) : out21 m c t = VO0_21.read (Elt F) (VO0_21.writes (Elt F) VO0_21.junk (runAt m c t).1.L21) := by
  unfold out21
  rfl

@[irreducible] def out22 (c : Dev nD) (t : Fin cfg0.N) : Vec F S512x512 .bf16 :=
  VO0_22.read (Elt F) (VO0_22.writes (Elt F) VO0_22.junk (runAt m c t).1.L22)

theorem out22_eq (c : Dev nD) (t : Fin cfg0.N) : out22 m c t = VO0_22.read (Elt F) (VO0_22.writes (Elt F) VO0_22.junk (runAt m c t).1.L22) := by
  unfold out22
  rfl

@[irreducible] def out23 (c : Dev nD) (t : Fin cfg0.N) : Vec F S512x512 .bf16 :=
  VO0_23.read (Elt F) (VO0_23.writes (Elt F) VO0_23.junk (runAt m c t).1.L23)

theorem out23_eq (c : Dev nD) (t : Fin cfg0.N) : out23 m c t = VO0_23.read (Elt F) (VO0_23.writes (Elt F) VO0_23.junk (runAt m c t).1.L23) := by
  unfold out23
  rfl

@[irreducible] def out24 (c : Dev nD) (t : Fin cfg0.N) : Vec F S1x16x512 .f32 :=
  VO0_24.read (Elt F) (VO0_24.writes (Elt F) VO0_24.junk (runAt m c t).1.L24)

theorem out24_eq (c : Dev nD) (t : Fin cfg0.N) : out24 m c t = VO0_24.read (Elt F) (VO0_24.writes (Elt F) VO0_24.junk (runAt m c t).1.L24) := by
  unfold out24
  rfl

/-- The pipeline's proof data: after a grid point each input's buffer holds its block, and each output's what the body's stores leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 m c t
    | ⟨14, _⟩ => out14 m c t
    | ⟨15, _⟩ => out15 m c t
    | ⟨16, _⟩ => out16 m c t
    | ⟨17, _⟩ => out17 m c t
    | ⟨18, _⟩ => out18 m c t
    | ⟨19, _⟩ => out19 m c t
    | ⟨20, _⟩ => out20 m c t
    | ⟨21, _⟩ => out21 m c t
    | ⟨22, _⟩ => out22 m c t
    | ⟨23, _⟩ => out23 m c t
    | ⟨24, _⟩ => out24 m c t
    | ⟨_ + 25, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = out13 m c t := by dsimp only [dats]
theorem after14 (c : Dev nD) (t : Fin cfg0.N) : (dats m 0 c).after 14 t = out14 m c t := by dsimp only [dats]
theorem after15 (c : Dev nD) (t : Fin cfg0.N) : (dats m 0 c).after 15 t = out15 m c t := by dsimp only [dats]
theorem after16 (c : Dev nD) (t : Fin cfg0.N) : (dats m 0 c).after 16 t = out16 m c t := by dsimp only [dats]
theorem after17 (c : Dev nD) (t : Fin cfg0.N) : (dats m 0 c).after 17 t = out17 m c t := by dsimp only [dats]
theorem after18 (c : Dev nD) (t : Fin cfg0.N) : (dats m 0 c).after 18 t = out18 m c t := by dsimp only [dats]
theorem after19 (c : Dev nD) (t : Fin cfg0.N) : (dats m 0 c).after 19 t = out19 m c t := by dsimp only [dats]
theorem after20 (c : Dev nD) (t : Fin cfg0.N) : (dats m 0 c).after 20 t = out20 m c t := by dsimp only [dats]
theorem after21 (c : Dev nD) (t : Fin cfg0.N) : (dats m 0 c).after 21 t = out21 m c t := by dsimp only [dats]
theorem after22 (c : Dev nD) (t : Fin cfg0.N) : (dats m 0 c).after 22 t = out22 m c t := by dsimp only [dats]
theorem after23 (c : Dev nD) (t : Fin cfg0.N) : (dats m 0 c).after 23 t = out23 m c t := by dsimp only [dats]
theorem after24 (c : Dev nD) (t : Fin cfg0.N) : (dats m 0 c).after 24 t = out24 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-- What the body meets at a grid point, and what it leaves. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 2000000 in
/-- The body's triple at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl]
  simp only [after0, after1, after2, after3, after4, after5, after6, after7, after8, after9, after10, after11, after12, after13, after14, after15, after16, after17, after18, after19, after20, after21, after22, after23, after24]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [HS0]; · iexact HS0
  isplitl [HS1]; · iexact HS1
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; rw [out13_eq]; exact View.read_writes_of_cover _ _ _ _ _ (cover13 m c t)
  isplitl [H14]
  · unfold owns; iexists _; isplitr
    swap; · iexact H14
    ipureintro; rw [out14_eq]; exact View.read_writes_of_cover _ _ _ _ _ (cover14 m c t)
  isplitl [H15]
  · unfold owns; iexists _; isplitr
    swap; · iexact H15
    ipureintro; rw [out15_eq]; exact View.read_writes_of_cover _ _ _ _ _ (cover15 m c t)
  isplitl [H16]
  · unfold owns; iexists _; isplitr
    swap; · iexact H16
    ipureintro; rw [out16_eq]; exact View.read_writes_of_cover _ _ _ _ _ (cover16 m c t)
  isplitl [H17]
  · unfold owns; iexists _; isplitr
    swap; · iexact H17
    ipureintro; rw [out17_eq]; exact View.read_writes_of_cover _ _ _ _ _ (cover17 m c t)
  isplitl [H18]
  · unfold owns; iexists _; isplitr
    swap; · iexact H18
    ipureintro; rw [out18_eq]; exact View.read_writes_of_cover _ _ _ _ _ (cover18 m c t)
  isplitl [H19]
  · unfold owns; iexists _; isplitr
    swap; · iexact H19
    ipureintro; rw [out19_eq]; exact View.read_writes_of_cover _ _ _ _ _ (cover19 m c t)
  isplitl [H20]
  · unfold owns; iexists _; isplitr
    swap; · iexact H20
    ipureintro; rw [out20_eq]; exact View.read_writes_of_cover _ _ _ _ _ (cover20 m c t)
  isplitl [H21]
  · unfold owns; iexists _; isplitr
    swap; · iexact H21
    ipureintro; rw [out21_eq]; exact View.read_writes_of_cover _ _ _ _ _ (cover21 m c t)
  isplitl [H22]
  · unfold owns; iexists _; isplitr
    swap; · iexact H22
    ipureintro; rw [out22_eq]; exact View.read_writes_of_cover _ _ _ _ _ (cover22 m c t)
  isplitl [H23]
  · unfold owns; iexists _; isplitr
    swap; · iexact H23
    ipureintro; rw [out23_eq]; exact View.read_writes_of_cover _ _ _ _ _ (cover23 m c t)
  unfold owns; iexists _; isplitr
  swap; · iexact H24
  ipureintro; rw [out24_eq]; exact View.read_writes_of_cover _ _ _ _ _ (cover24 m c t)

theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The body's triple at every grid point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run ends in the pipeline's final state, with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run ends in the pipeline's final state. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The arguments and the semaphores after the run. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Proj

end
-- ==== Proof.ProjArr.lean ====
/- What the projection's run leaves in its results: the plain products (`arr15` and others), the attention's queries (`arr20`) and
   its keys (`arr21`). -/
module

public import proofs.«01_k».proof.Proof.ProjTile
public import proofs.«01_k».proof.Proof.ProjFrame

@[expose] public section

set_option maxRecDepth 65536
set_option maxHeartbeats 2000000

noncomputable section

namespace Cert.Proj

open Cert.Kernel2Ideal Cert.Kernel2Ideal.Gen Idealize.ShloMosaic Idealize.ShloMosaic.TcCoe Idealize.ShloMosaic.Tactic

variable (m : (ℓ : Loc nD τ sig) → Buf (Elt Ideal) ℓ)

/-- The results' windows step through their arrays with the grid point. -/
theorem idx_out : ∀ t : Fin grid0.N,
    (win0_15.index t 0 = t.val ∧ win0_15.index t 1 = 0)
    ∧ (win0_16.index t 0 = t.val ∧ win0_16.index t 1 = 0)
    ∧ (win0_17.index t 0 = t.val ∧ win0_17.index t 1 = 0)
    ∧ (win0_20.index t 0 = t.val ∧ win0_20.index t 1 = 0)
    ∧ (win0_21.index t 0 = t.val ∧ win0_21.index t 1 = 0)
    ∧ (win0_22.index t 0 = t.val ∧ win0_22.index t 1 = 0)
    ∧ (win0_23.index t 0 = t.val ∧ win0_23.index t 1 = 0) := by
  decide +kernel

theorem ix_eta (y : S512x512.Idx) : y = ix2 (y 0) (y 1) := funext fun a => match a with
  | ⟨0, _⟩ => rfl
  | ⟨1, _⟩ => rfl

theorem out15_at (c : Dev nD) (t : Fin cfg0.N) (r a : Fin 512) : out15 m c t (ix2 r a) = plain (argsOf m c) 1024 (ix2 (tileRow t r) a) := by
  rw [out15_eq]
  unfold runAt
  rw [stores15, whole_read]
  exact plain_at m c t 1024 _ (cols_low m c t 1024 _ (by decide)) r a

theorem arr15 (c : Dev nD) : (dats m 0 c).arrAt 15 cfg0.N = plain (argsOf m c) 1024 := by
  refine (dats m 0 c).arrAt_eq_of_covers 15 _ (by decide +kernel) fun t hf y => ?_
  blk_simp
  rw [after15]
  have e0 : (((win0_15.blk t).view.emb y) 0 : Fin 65536) = tileRow t (y 0) :=
    Fin.ext ((Pipeline.Window.rect_emb_val win0_15 t y 0 rfl).trans (at_block (idx_out t).1.1))
  have e1 : (((win0_15.blk t).view.emb y) 1 : Fin 512) = y 1 :=
    Fin.ext ((Pipeline.Window.rect_emb_val win0_15 t y 1 rfl).trans (at_zero (idx_out t).1.2))
  refine Eq.trans ?_ (congrArg₂ (fun (n : Fin 65536) (j : Fin 512) => plain (argsOf m c) 1024 (ix2 n j)) e0 e1).symm
  exact (congrArg (out15 m c t) (ix_eta y)).trans (out15_at m c t (y 0) (y 1))

theorem out16_at (c : Dev nD) (t : Fin cfg0.N) (r a : Fin 512) : out16 m c t (ix2 r a) = plain (argsOf m c) 1536 (ix2 (tileRow t r) a) := by
  rw [out16_eq]
  unfold runAt
  rw [stores16, whole_read]
  exact plain_at m c t 1536 _ (cols_low m c t 1536 _ (by decide)) r a

theorem arr16 (c : Dev nD) : (dats m 0 c).arrAt 16 cfg0.N = plain (argsOf m c) 1536 := by
  refine (dats m 0 c).arrAt_eq_of_covers 16 _ (by decide +kernel) fun t hf y => ?_
  blk_simp
  rw [after16]
  have e0 : (((win0_16.blk t).view.emb y) 0 : Fin 65536) = tileRow t (y 0) :=
    Fin.ext ((Pipeline.Window.rect_emb_val win0_16 t y 0 rfl).trans (at_block (idx_out t).2.1.1))
  have e1 : (((win0_16.blk t).view.emb y) 1 : Fin 512) = y 1 :=
    Fin.ext ((Pipeline.Window.rect_emb_val win0_16 t y 1 rfl).trans (at_zero (idx_out t).2.1.2))
  refine Eq.trans ?_ (congrArg₂ (fun (n : Fin 65536) (j : Fin 512) => plain (argsOf m c) 1536 (ix2 n j)) e0 e1).symm
  exact (congrArg (out16 m c t) (ix_eta y)).trans (out16_at m c t (y 0) (y 1))

theorem out17_at (c : Dev nD) (t : Fin cfg0.N) (r a : Fin 512) : out17 m c t (ix2 r a) = plain (argsOf m c) 2048 (ix2 (tileRow t r) a) := by
  rw [out17_eq]
  unfold runAt
  rw [stores17, whole_read]
  exact plain_at m c t 2048 _ (cols_low m c t 2048 _ (by decide)) r a

theorem arr17 (c : Dev nD) : (dats m 0 c).arrAt 17 cfg0.N = plain (argsOf m c) 2048 := by
  refine (dats m 0 c).arrAt_eq_of_covers 17 _ (by decide +kernel) fun t hf y => ?_
  blk_simp
  rw [after17]
  have e0 : (((win0_17.blk t).view.emb y) 0 : Fin 65536) = tileRow t (y 0) :=
    Fin.ext ((Pipeline.Window.rect_emb_val win0_17 t y 0 rfl).trans (at_block (idx_out t).2.2.1.1))
  have e1 : (((win0_17.blk t).view.emb y) 1 : Fin 512) = y 1 :=
    Fin.ext ((Pipeline.Window.rect_emb_val win0_17 t y 1 rfl).trans (at_zero (idx_out t).2.2.1.2))
  refine Eq.trans ?_ (congrArg₂ (fun (n : Fin 65536) (j : Fin 512) => plain (argsOf m c) 2048 (ix2 n j)) e0 e1).symm
  exact (congrArg (out17 m c t) (ix_eta y)).trans (out17_at m c t (y 0) (y 1))

theorem out20_at (c : Dev nD) (t : Fin cfg0.N) (r a : Fin 512) : out20 m c t (ix2 r a) = queries (argsOf m c) (ix2 (tileRow t r) a) := by
  rw [out20_eq]
  unfold runAt
  rw [stores20, whole_read]
  exact queries_at m c t _ (cols_high m c t 2576 2816 _ (by decide) (by decide)) r a

theorem arr20 (c : Dev nD) : (dats m 0 c).arrAt 20 cfg0.N = queries (argsOf m c) := by
  refine (dats m 0 c).arrAt_eq_of_covers 20 _ (by decide +kernel) fun t hf y => ?_
  blk_simp
  rw [after20]
  have e0 : (((win0_20.blk t).view.emb y) 0 : Fin 65536) = tileRow t (y 0) :=
    Fin.ext ((Pipeline.Window.rect_emb_val win0_20 t y 0 rfl).trans (at_block (idx_out t).2.2.2.1.1))
  have e1 : (((win0_20.blk t).view.emb y) 1 : Fin 512) = y 1 :=
    Fin.ext ((Pipeline.Window.rect_emb_val win0_20 t y 1 rfl).trans (at_zero (idx_out t).2.2.2.1.2))
  refine Eq.trans ?_ (congrArg₂ (fun (n : Fin 65536) (j : Fin 512) => queries (argsOf m c) (ix2 n j)) e0 e1).symm
  exact (congrArg (out20 m c t) (ix_eta y)).trans (out20_at m c t (y 0) (y 1))

theorem out21_at (c : Dev nD) (t : Fin cfg0.N) (r a : Fin 512) : out21 m c t (ix2 r a) = keys (argsOf m c) (ix2 (tileRow t r) a) := by
  rw [out21_eq]
  unfold runAt
  rw [stores21, whole_read]
  exact keys_at m c t _ (cols_high m c t 3088 3328 _ (by decide) (by decide)) r a

theorem arr21 (c : Dev nD) : (dats m 0 c).arrAt 21 cfg0.N = keys (argsOf m c) := by
  refine (dats m 0 c).arrAt_eq_of_covers 21 _ (by decide +kernel) fun t hf y => ?_
  blk_simp
  rw [after21]
  have e0 : (((win0_21.blk t).view.emb y) 0 : Fin 65536) = tileRow t (y 0) :=
    Fin.ext ((Pipeline.Window.rect_emb_val win0_21 t y 0 rfl).trans (at_block (idx_out t).2.2.2.2.1.1))
  have e1 : (((win0_21.blk t).view.emb y) 1 : Fin 512) = y 1 :=
    Fin.ext ((Pipeline.Window.rect_emb_val win0_21 t y 1 rfl).trans (at_zero (idx_out t).2.2.2.2.1.2))
  refine Eq.trans ?_ (congrArg₂ (fun (n : Fin 65536) (j : Fin 512) => keys (argsOf m c) (ix2 n j)) e0 e1).symm
  exact (congrArg (out21 m c t) (ix_eta y)).trans (out21_at m c t (y 0) (y 1))

theorem out22_at (c : Dev nD) (t : Fin cfg0.N) (r a : Fin 512) : out22 m c t (ix2 r a) = plain (argsOf m c) 3600 (ix2 (tileRow t r) a) := by
  rw [out22_eq]
  unfold runAt
  rw [stores22, whole_read]
  exact plain_at m c t 3600 _ (cols_high m c t 3600 3840 _ (by decide) (by decide)) r a

theorem arr22 (c : Dev nD) : (dats m 0 c).arrAt 22 cfg0.N = plain (argsOf m c) 3600 := by
  refine (dats m 0 c).arrAt_eq_of_covers 22 _ (by decide +kernel) fun t hf y => ?_
  blk_simp
  rw [after22]
  have e0 : (((win0_22.blk t).view.emb y) 0 : Fin 65536) = tileRow t (y 0) :=
    Fin.ext ((Pipeline.Window.rect_emb_val win0_22 t y 0 rfl).trans (at_block (idx_out t).2.2.2.2.2.1.1))
  have e1 : (((win0_22.blk t).view.emb y) 1 : Fin 512) = y 1 :=
    Fin.ext ((Pipeline.Window.rect_emb_val win0_22 t y 1 rfl).trans (at_zero (idx_out t).2.2.2.2.2.1.2))
  refine Eq.trans ?_ (congrArg₂ (fun (n : Fin 65536) (j : Fin 512) => plain (argsOf m c) 3600 (ix2 n j)) e0 e1).symm
  exact (congrArg (out22 m c t) (ix_eta y)).trans (out22_at m c t (y 0) (y 1))

theorem out23_at (c : Dev nD) (t : Fin cfg0.N) (r a : Fin 512) : out23 m c t (ix2 r a) = plain (argsOf m c) 4112 (ix2 (tileRow t r) a) := by
  rw [out23_eq]
  unfold runAt
  rw [stores23, whole_read]
  exact plain_at m c t 4112 _ (cols_high m c t 4112 4352 _ (by decide) (by decide)) r a

theorem arr23 (c : Dev nD) : (dats m 0 c).arrAt 23 cfg0.N = plain (argsOf m c) 4112 := by
  refine (dats m 0 c).arrAt_eq_of_covers 23 _ (by decide +kernel) fun t hf y => ?_
  blk_simp
  rw [after23]
  have e0 : (((win0_23.blk t).view.emb y) 0 : Fin 65536) = tileRow t (y 0) :=
    Fin.ext ((Pipeline.Window.rect_emb_val win0_23 t y 0 rfl).trans (at_block (idx_out t).2.2.2.2.2.2.1))
  have e1 : (((win0_23.blk t).view.emb y) 1 : Fin 512) = y 1 :=
    Fin.ext ((Pipeline.Window.rect_emb_val win0_23 t y 1 rfl).trans (at_zero (idx_out t).2.2.2.2.2.2.2))
  refine Eq.trans ?_ (congrArg₂ (fun (n : Fin 65536) (j : Fin 512) => plain (argsOf m c) 4112 (ix2 n j)) e0 e1).symm
  exact (congrArg (out23 m c t) (ix_eta y)).trans (out23_at m c t (y 0) (y 1))

end Cert.Proj

end
-- ==== Proof.ProjRef.lean ====
/- The reference's projection read at an index: it is `product` (`v13_at`), and its seven results are the layer's. -/
module

public import proofs.«01_k».proof.Proof.ProjLayer
public import proofs.«01_k».proof.Proof.Gen.Reference2Ideal.Read
public import Idealize.ShloMosaic.Lib.Pointwise

@[expose] public section

set_option maxRecDepth 65536
set_option maxHeartbeats 2000000

noncomputable section

namespace Cert.ProjRef

open Cert.Reference2Ideal Cert.Reference2Ideal.Gen Cert.Reference2Ideal.Read Cert.Proj Idealize.ShloMosaic

variable (A : Args)

theorem eq_ix2 {N M : ℕ} (i : (⟨2, ![N, M]⟩ : Shape).Idx) : i = ix2 (i 0) (i 1) := funext fun a => match a with
  | ⟨0, _⟩ => rfl
  | ⟨1, _⟩ => rfl

theorem v12_at (b : Fin 32) (T : Fin 2048) (k : Fin 1024) : val_main_v12 (F := Ideal) A.x A.g (ix3 b T k) = normed A b T k := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise []
  rfl

theorem v13_at (b : Fin 32) (T : Fin 2048) (n : Fin 4624) : val_main_v13 (F := Ideal) A.x A.g A.w (ix3 b T n) = product A b T n := by
  have e : ∀ k, val_main_v12 (F := Ideal) A.x A.g (ix3 b T k) = normed A b T k := v12_at A b T
  unfold val_main_v13
  generalize val_main_v12 (F := Ideal) A.x A.g = y at e
  pointwise []
  simp only [e]
  rfl

/-- A slice of 512 columns, flattened. -/
theorem flat_at (off : Fin 4113) (y : S32x2048x4624.Idx → EReal) (e : ∀ b T n, y (ix3 b T n) = product A b T n) (n : Fin 65536) (a : Fin 512) :
    y (ix3 (seqOf n) (tokOf n) ⟨off.val + a.val, by omega⟩) = plain A off (ix2 n a) := e _ _ _

theorem v52_eq : val_main_v52 (F := Ideal) A.x A.g A.w = plain A 1024 := by
  have e := v13_at A
  unfold val_main_v52 val_main_v51 val_main_v14
  generalize val_main_v13 (F := Ideal) A.x A.g A.w = y at e
  funext i
  obtain ⟨n, a, rfl⟩ : ∃ n a, i = ix2 n a := ⟨i 0, i 1, eq_ix2 i⟩
  pointwise []
  exact flat_at A 1024 y e n a

theorem v54_eq : val_main_v54 (F := Ideal) A.x A.g A.w = plain A 1536 := by
  have e := v13_at A
  unfold val_main_v54 val_main_v53 val_main_v15
  generalize val_main_v13 (F := Ideal) A.x A.g A.w = y at e
  funext i
  obtain ⟨n, a, rfl⟩ : ∃ n a, i = ix2 n a := ⟨i 0, i 1, eq_ix2 i⟩
  pointwise []
  exact flat_at A 1536 y e n a

theorem v56_eq : val_main_v56 (F := Ideal) A.x A.g A.w = plain A 2048 := by
  have e := v13_at A
  unfold val_main_v56 val_main_v55 val_main_v16
  generalize val_main_v13 (F := Ideal) A.x A.g A.w = y at e
  funext i
  obtain ⟨n, a, rfl⟩ : ∃ n a, i = ix2 n a := ⟨i 0, i 1, eq_ix2 i⟩
  pointwise []
  exact flat_at A 2048 y e n a

theorem v62_eq : val_main_v62 (F := Ideal) A.x A.g A.w = plain A 3600 := by
  have e := v13_at A
  unfold val_main_v62 val_main_v61 val_main_v19
  generalize val_main_v13 (F := Ideal) A.x A.g A.w = y at e
  funext i
  obtain ⟨n, a, rfl⟩ : ∃ n a, i = ix2 n a := ⟨i 0, i 1, eq_ix2 i⟩
  pointwise []
  exact flat_at A 3600 y e n a

theorem v64_eq : val_main_v64 (F := Ideal) A.x A.g A.w = plain A 4112 := by
  have e := v13_at A
  unfold val_main_v64 val_main_v63 val_main_v20
  generalize val_main_v13 (F := Ideal) A.x A.g A.w = y at e
  funext i
  obtain ⟨n, a, rfl⟩ : ∃ n a, i = ix2 n a := ⟨i 0, i 1, eq_ix2 i⟩
  pointwise []
  exact flat_at A 4112 y e n a

/-- The queries' products over their heads. -/
theorem v21_at (b : Fin 32) (T : Fin 2048) (h : Fin 8) (l : Fin 64) :
    val_main_v21 (F := Ideal) A.x A.g A.w (ix4 b T h l) = columns A 2576 b T ⟨64 * h.val + l.val, by omega⟩ := by
  have e := v13_at A
  unfold val_main_v21 val_main_v17
  generalize val_main_v13 (F := Ideal) A.x A.g A.w = y at e
  pointwise []
  refine (e _ _ _).trans (congrArg (product A b T) (Fin.ext ?_))
  show 2576 + (h.val * 64 + l.val) = 2576 + (64 * h.val + l.val)
  omega

theorem v37_at (b : Fin 32) (T : Fin 2048) (h : Fin 8) (l : Fin 64) :
    val_main_v37 (F := Ideal) A.x A.g A.w (ix4 b T h l) = columns A 3088 b T ⟨64 * h.val + l.val, by omega⟩ := by
  have e := v13_at A
  unfold val_main_v37 val_main_v18
  generalize val_main_v13 (F := Ideal) A.x A.g A.w = y at e
  pointwise []
  refine (e _ _ _).trans (congrArg (product A b T) (Fin.ext ?_))
  show 3088 + (h.val * 64 + l.val) = 3088 + (64 * h.val + l.val)
  omega

theorem v34_at (b : Fin 32) (T : Fin 2048) (h : Fin 8) (l : Fin 64) :
    val_main_v34 (F := Ideal) A.x A.g A.w A.gq (ix4 b T h l)
      = rms sixtyfour (columns A 2576 b T ⟨64 * h.val + l.val, by omega⟩) (fun j : Fin 64 => columns A 2576 b T ⟨64 * h.val + j.val, by omega⟩) (A.gq (ix1 l)) := by
  have e := v21_at A
  unfold val_main_v34 val_main_v33 val_main_v32 val_main_v31 val_main_v30 val_main_v29 val_main_v28 val_main_v27 val_main_v26 val_main_v25 val_main_v24 val_main_v23 val_main_v22 val_main_cst_2 val_main_cst_3 val_main_cst_4
  generalize val_main_v21 (F := Ideal) A.x A.g A.w = y at e
  pointwise []
  simp only [e]
  rfl

theorem v50_at (b : Fin 32) (T : Fin 2048) (h : Fin 8) (l : Fin 64) :
    val_main_v50 (F := Ideal) A.x A.g A.w A.gk (ix4 b T h l)
      = rms sixtyfour (columns A 3088 b T ⟨64 * h.val + l.val, by omega⟩) (fun j : Fin 64 => columns A 3088 b T ⟨64 * h.val + j.val, by omega⟩) (A.gk (ix1 l)) := by
  have e := v37_at A
  unfold val_main_v50 val_main_v49 val_main_v48 val_main_v47 val_main_v46 val_main_v45 val_main_v44 val_main_v43 val_main_v42 val_main_v41 val_main_v40 val_main_v39 val_main_v38 val_main_cst_6 val_main_cst_7 val_main_cst_8
  generalize val_main_v37 (F := Ideal) A.x A.g A.w = y at e
  pointwise []
  simp only [e]
  rfl

/-- A lane and its head and place there. -/
theorem lane_self (a : Fin 512) : (⟨64 * (a.val / 64) + a.val % 64, by omega⟩ : Fin 512) = a := Fin.ext (Nat.div_add_mod a.val 64)

theorem v58_eq : val_main_v58 (F := Ideal) A.x A.g A.w A.gq = queries A := by
  have e := v34_at A
  unfold val_main_v58 val_main_v57 val_main_v36 val_main_v35 val_main_cst_5
  generalize val_main_v34 (F := Ideal) A.x A.g A.w A.gq = y at e
  funext i
  obtain ⟨n, a, rfl⟩ : ∃ n a, i = ix2 n a := ⟨i 0, i 1, eq_ix2 i⟩
  pointwise []
  refine congrArg (· * eighth) ((e (seqOf n) (tokOf n) ⟨a.val / 64, by omega⟩ ⟨a.val % 64, Nat.mod_lt _ (by norm_num)⟩).trans ?_)
  show rms sixtyfour (columns A 2576 (seqOf n) (tokOf n) ⟨64 * (a.val / 64) + a.val % 64, by omega⟩) _ _ = _
  rw [lane_self]
  rfl

theorem v60_eq : val_main_v60 (F := Ideal) A.x A.g A.w A.gk = keys A := by
  have e := v50_at A
  unfold val_main_v60 val_main_v59
  generalize val_main_v50 (F := Ideal) A.x A.g A.w A.gk = y at e
  funext i
  obtain ⟨n, a, rfl⟩ : ∃ n a, i = ix2 n a := ⟨i 0, i 1, eq_ix2 i⟩
  pointwise []
  refine (e (seqOf n) (tokOf n) ⟨a.val / 64, by omega⟩ ⟨a.val % 64, Nat.mod_lt _ (by norm_num)⟩).trans ?_
  show rms sixtyfour (columns A 3088 (seqOf n) (tokOf n) ⟨64 * (a.val / 64) + a.val % 64, by omega⟩) _ _ = _
  rw [lane_self]
  rfl

end Cert.ProjRef

end
-- ==== Proof.ProjClaim.lean ====
/- The projection call's claims: its frames come from one run over any float values (`frame_kernel`, `frame_ideal`), and the value
   claim joins the kernel's run (`arr15` and others) and the reference's, which end in the same functions of the arguments. -/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.ProjArr
public import proofs.«01_k».proof.Proof.ProjRef

@[expose] public section

set_option maxRecDepth 65536
set_option maxHeartbeats 4000000

noncomputable section

namespace Cert.Proj

open Idealize.ShloMosaic Idealize.SL.Sem Idealize.ShloMosaic.Tactic

theorem frame_ideal : Cert.quiescent_Kernel2Ideal (hKernel2Ideal := Cert.Kernel2Ideal.Gen.facts) := fun m ρ _ => frame (F := Ideal) m ρ

/-- The kernel as it is compiled has the same text, so its frame is the same run's, over bits. -/
theorem frame_kernel : Cert.quiescent_Kernel2 (hKernel2 := Cert.Kernel2.Gen.facts) := by
  intro m ρ _
  refine Eq.mp ?_ (frame (F := Bits) m ρ)
  sl_kernel_rfl

theorem frame_reference : Cert.quiescent_Reference2Ideal (hReference2Ideal := Cert.Reference2Ideal.Gen.facts) := fun m g _ =>
  (θ_run _ _ _).mono (fun r h => ⟨fun c => (h c).2.2.2.2.2.2.2, sem_eq_zero_of_no_sems (by decide) r.2⟩) (Cert.Reference2Ideal.Value.run (F := Ideal) m g)

theorem ref52 (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    : Cert.Reference2Ideal.Read.val_main_v52 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) = plain (argsOf m c) 1024 := by
  rw [h0, h2, h3]
  exact Cert.ProjRef.v52_eq (argsOf m c)

theorem ref54 (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    : Cert.Reference2Ideal.Read.val_main_v54 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) = plain (argsOf m c) 1536 := by
  rw [h0, h2, h3]
  exact Cert.ProjRef.v54_eq (argsOf m c)

theorem ref56 (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    : Cert.Reference2Ideal.Read.val_main_v56 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) = plain (argsOf m c) 2048 := by
  rw [h0, h2, h3]
  exact Cert.ProjRef.v56_eq (argsOf m c)

theorem ref58 (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    : Cert.Reference2Ideal.Read.val_main_v58 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg6)) = queries (argsOf m c) := by
  rw [h0, h2, h3, h6]
  exact Cert.ProjRef.v58_eq (argsOf m c)

theorem ref60 (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    : Cert.Reference2Ideal.Read.val_main_v60 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg7)) = keys (argsOf m c) := by
  rw [h0, h2, h3, h7]
  exact Cert.ProjRef.v60_eq (argsOf m c)

theorem ref62 (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    : Cert.Reference2Ideal.Read.val_main_v62 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) = plain (argsOf m c) 3600 := by
  rw [h0, h2, h3]
  exact Cert.ProjRef.v62_eq (argsOf m c)

theorem ref64 (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    : Cert.Reference2Ideal.Read.val_main_v64 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) = plain (argsOf m c) 4112 := by
  rw [h0, h2, h3]
  exact Cert.ProjRef.v64_eq (argsOf m c)

theorem algebraic : Cert.algebraic_Kernel2Ideal_Reference2Ideal (hKernel2Ideal := Cert.Kernel2Ideal.Gen.facts) (hReference2Ideal := Cert.Reference2Ideal.Gen.facts) := by
  intro m g m' g' _ hagree
  refine ⟨fun c => plain (argsOf m c) 1024, fun c => plain (argsOf m c) 1536, fun c => plain (argsOf m c) 2048, fun c => queries (argsOf m c), fun c => keys (argsOf m c), fun c => plain (argsOf m c) 3600, fun c => plain (argsOf m c) 4112, ?_, ?_⟩
  · exact (θ_run _ _ _).mono (fun r h c => ⟨((h.2 c).1 15).trans (arr15 m c), ((h.2 c).1 16).trans (arr16 m c), ((h.2 c).1 17).trans (arr17 m c), ((h.2 c).1 20).trans (arr20 m c), ((h.2 c).1 21).trans (arr21 m c), ((h.2 c).1 22).trans (arr22 m c), ((h.2 c).1 23).trans (arr23 m c), h.1 c⟩)
      (θ_run_and (unchanged (F := Ideal) m g) (run_main (F := Ideal) m g))
  · refine (θ_run _ _ _).mono (fun r h c => ?_) (Cert.Reference2Ideal.Value.run (F := Ideal) m' g')
    obtain ⟨h0, h1, h2, h3, h4, h5, h6, h7⟩ := hagree c
    obtain ⟨r0, r1, r2, r3, r4, r5, r6, hk⟩ := h c
    exact ⟨(r0.trans (Cert.Reference2Ideal.Read.val_main_v52_eq (F := Ideal) _ _ _)).trans (ref52 m m' c h0 h2 h3), (r1.trans (Cert.Reference2Ideal.Read.val_main_v54_eq (F := Ideal) _ _ _)).trans (ref54 m m' c h0 h2 h3), (r2.trans (Cert.Reference2Ideal.Read.val_main_v56_eq (F := Ideal) _ _ _)).trans (ref56 m m' c h0 h2 h3), (r3.trans (Cert.Reference2Ideal.Read.val_main_v58_eq (F := Ideal) _ _ _ _)).trans (ref58 m m' c h0 h2 h3 h6), (r4.trans (Cert.Reference2Ideal.Read.val_main_v60_eq (F := Ideal) _ _ _ _)).trans (ref60 m m' c h0 h2 h3 h7), (r5.trans (Cert.Reference2Ideal.Read.val_main_v62_eq (F := Ideal) _ _ _)).trans (ref62 m m' c h0 h2 h3), (r6.trans (Cert.Reference2Ideal.Read.val_main_v64_eq (F := Ideal) _ _ _)).trans (ref64 m m' c h0 h2 h3), hk⟩

end Cert.Proj

end
-- ==== Proof.lean ====
/- The certificate's claim: the frames are the generated ones, and the value claim joins the kernel's run (`arr_eq_layer`) and the
   reference's (`reference_at`), both of which are `layer` of the arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import Idealize.ShloMosaic.Adequacy
public import Idealize.ShloMosaic.Init
public import proofs.«01_k».proof.Proof.KernelValue
public import proofs.«01_k».proof.Proof.RefLayer
public import proofs.«01_k».proof.Proof.Pre
public import proofs.«01_k».proof.Proof.ProjClaim

@[expose] public section

set_option maxRecDepth 65536
set_option maxHeartbeats 2000000

noncomputable section

namespace Cert.Proof

open Idealize.ShloMosaic Idealize.SL.Sem Cert.Block

/-- What the reference computes from the arguments of the kernel is the layer's output. -/
theorem reference_eq (A : Args) :
    Cert.ReferenceIdeal.Read.val_main_v147 (F := Ideal) A.q A.k A.v A.km A.vm A.rpb A.za A.hf A.hb A.o A.zm A.x A.g A.w
      = fun i : Cert.KernelIdeal.S65536x1024.Idx => layer A (seqOf (i 0)) (tokOf (i 0)) (i 1) := by
  funext i
  have e : i = ix2 (i 0) (i 1) := funext fun a => match a with
    | ⟨0, _⟩ => rfl
    | ⟨1, _⟩ => rfl
  refine (congrArg _ e).trans (Cert.RefRead.reference_at A (i 0) (i 1))

theorem algebraic : Cert.algebraic_KernelIdeal_ReferenceIdeal_pre_finite_scores (hKernelIdeal := Cert.KernelIdeal.Gen.facts)
    (hReferenceIdeal := Cert.ReferenceIdeal.Gen.facts) (hPre_finite_scores := pre_facts) := by
  intro m g m' g' hpre hagree
  refine ⟨fun c => fun i : Cert.KernelIdeal.S65536x1024.Idx => layer (argsOf m c) (seqOf (i 0)) (tokOf (i 0)) (i 1), ?_, ?_⟩
  · exact (θ_run _ _ _).mono (fun r h c => ⟨(h c).1.trans (arr_eq_layer m c (finite_of_pre (argsOf m c) (hpre c))), (h c).2⟩)
      (Cert.KernelIdeal.Value.run_blocks (F := Ideal) m g)
  · refine (θ_run _ _ _).mono (fun r h c => ⟨((h c).1.trans (Cert.ReferenceIdeal.Read.val_main_v147_eq (F := Ideal) (StableHlo.launchContents m' c))).trans ?_, (h c).2⟩)
      (Cert.ReferenceIdeal.Value.run (F := Ideal) m' g')
    obtain ⟨h0, h1, h2, h3, h4, h5, h6, h7, h8, h9, h10, h11, h12, h13⟩ := hagree c
    refine Eq.trans ?_ (reference_eq (argsOf m c))
    show Cert.ReferenceIdeal.Read.val_main_v147 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13)) = _
    rw [h0, h1, h2, h3, h4, h5, h6, h7, h8, h9, h10, h11, h12, h13]
    rfl

/-- The reference declares no semaphore, and its run keeps the arguments. -/
theorem frame_ref : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, pre_facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial, Cert.Proj.frame_kernel, Cert.Proj.frame_ideal, Cert.Proj.frame_reference,
  trivial, algebraic, trivial, Cert.Proj.algebraic⟩

end Cert.Proof

end
